-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "w1" .f32 0x3D17B426#32 ((1 / 27 : ℝ) : EReal)
  ∧ IdealRules.named_const.Statement Cert.KernelIdeal.κ "w3" .f32 0x3DE38E39#32 ((1 / 9 : ℝ) : EReal)
  ∧ IdealRules.named_const.Statement Cert.KernelIdeal.κ "w6" .f32 0x3E638E39#32 ((2 / 9 : ℝ) : EReal)
  ∧ IdealRules.named_const.Statement Cert.KernelIdeal.κ "w7" .f32 0x3E84BDA1#32 ((7 / 27 : ℝ) : EReal)

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨5, ![16, 1, 128, 128, 128]⟩ : Shape).Idx, (Cert.On_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.KernelIdeal.nD Cert.KernelIdeal.τ).loc Cert.KernelIdeal.main_v21) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨5, ![16, 1, 128, 128, 128]⟩ : Shape).Idx, (Cert.On_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.ReferenceIdeal.nD Cert.ReferenceIdeal.τ).loc Cert.ReferenceIdeal.main_v358) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_unclipped (hKernelIdeal := hKernelIdeal) (hReferenceIdeal := hReferenceIdeal) (hOn_unclipped := hOn_unclipped)
-- ==== On_unclipped.lean ====
abbrev S16x2048 : Shape := ⟨2, ![16, 2048]⟩
abbrev S1x1x16x120 : Shape := ⟨4, ![1, 1, 16, 120]⟩
abbrev S240x256 : Shape := ⟨2, ![240, 256]⟩
abbrev S240 : Shape := ⟨1, ![240]⟩
abbrev S64x2 : Shape := ⟨2, ![64, 2]⟩
abbrev S128 : Shape := ⟨1, ![128]⟩
abbrev S32x2 : Shape := ⟨2, ![32, 2]⟩
abbrev S64 : Shape := ⟨1, ![64]⟩
abbrev S16x4 : Shape := ⟨2, ![16, 4]⟩
abbrev S3x16 : Shape := ⟨2, ![3, 16]⟩
abbrev S3 : Shape := ⟨1, ![3]⟩
abbrev S16x256x8 : Shape := ⟨3, ![16, 256, 8]⟩
abbrev S240x16x8 : Shape := ⟨3, ![240, 16, 8]⟩
abbrev S16x240x8 : Shape := ⟨3, ![16, 240, 8]⟩
abbrev S1x240x1 : Shape := ⟨3, ![1, 240, 1]⟩
abbrev S16x64x30 : Shape := ⟨3, ![16, 64, 30]⟩
abbrev S_ : Shape := ⟨0, ![]⟩
abbrev S16x64 : Shape := ⟨2, ![16, 64]⟩
abbrev S16x64x1 : Shape := ⟨3, ![16, 64, 1]⟩
abbrev S16x64x1x30 : Shape := ⟨4, ![16, 64, 1, 30]⟩
abbrev S1x64x2x1 : Shape := ⟨4, ![1, 64, 2, 1]⟩
abbrev S16x64x2x30 : Shape := ⟨4, ![16, 64, 2, 30]⟩
abbrev S16x32x120 : Shape := ⟨3, ![16, 32, 120]⟩
abbrev S16x32 : Shape := ⟨2, ![16, 32]⟩
abbrev S16x32x1 : Shape := ⟨3, ![16, 32, 1]⟩
abbrev S16x32x1x120 : Shape := ⟨4, ![16, 32, 1, 120]⟩
abbrev S1x32x2x1 : Shape := ⟨4, ![1, 32, 2, 1]⟩
abbrev S16x32x2x120 : Shape := ⟨4, ![16, 32, 2, 120]⟩
abbrev S16x16x480 : Shape := ⟨3, ![16, 16, 480]⟩
abbrev S16x16 : Shape := ⟨2, ![16, 16]⟩
abbrev S16x16x1 : Shape := ⟨3, ![16, 16, 1]⟩
abbrev S16x16x1x480 : Shape := ⟨4, ![16, 16, 1, 480]⟩
abbrev S1x16x4x1 : Shape := ⟨4, ![1, 16, 4, 1]⟩
abbrev S16x16x4x480 : Shape := ⟨4, ![16, 16, 4, 480]⟩
abbrev S16x16x1920 : Shape := ⟨3, ![16, 16, 1920]⟩
abbrev S3x16x1920 : Shape := ⟨3, ![3, 16, 1920]⟩
abbrev S16x3x1920 : Shape := ⟨3, ![16, 3, 1920]⟩
abbrev S1x3x1 : Shape := ⟨3, ![1, 3, 1]⟩
abbrev S16x3 : Shape := ⟨2, ![16, 3]⟩
abbrev S16x1x128x128x128 : Shape := ⟨5, ![16, 1, 128, 128, 128]⟩
abbrev S16x1 : Shape := ⟨2, ![16, 1]⟩
abbrev S16 : Shape := ⟨1, ![16]⟩

class Facts : Prop where
  shapeCasts_S16x2048_S16x256x8 : S16x2048.ShapeCasts S16x256x8
  transposes_S240x16x8_S16x240x8_1_0_2 : S240x16x8.Transposes [1, 0, 2] S16x240x8
  bcast_S240_S1x240x1_1 : S240.BroadcastsInDim S1x240x1 (![1] : Fin 1 → Fin S1x240x1.rank)
  bcast_S1x240x1_S16x240x8_0_1_2 : S1x240x1.BroadcastsInDim S16x240x8 (![0, 1, 2] : Fin 3 → Fin S16x240x8.rank)
  shapeCasts_S16x240x8_S16x64x30 : S16x240x8.ShapeCasts S16x64x30
  reducesTo_S16x64x30_S16x64_d2 : S16x64x30.ReducesTo [2] S16x64
  h_S_ : 0 < S_.numel
  bcast_S16x64_S16x64x1_0_1 : S16x64.BroadcastsInDim S16x64x1 (![0, 1] : Fin 2 → Fin S16x64x1.rank)
  bcast_S_S16x64x1 : S_.BroadcastsInDim S16x64x1 (![] : Fin 0 → Fin S16x64x1.rank)
  bcast_S16x64x1_S16x64x30_0_1_2 : S16x64x1.BroadcastsInDim S16x64x30 (![0, 1, 2] : Fin 3 → Fin S16x64x30.rank)
  bcast_S_S16x64x30 : S_.BroadcastsInDim S16x64x30 (![] : Fin 0 → Fin S16x64x30.rank)
  bcast_S16x64x30_S16x64x1x30_0_1_3 : S16x64x30.BroadcastsInDim S16x64x1x30 (![0, 1, 3] : Fin 3 → Fin S16x64x1x30.rank)
  bcast_S64x2_S1x64x2x1_1_2 : S64x2.BroadcastsInDim S1x64x2x1 (![1, 2] : Fin 2 → Fin S1x64x2x1.rank)
  bcast_S16x64x1x30_S16x64x2x30_0_1_2_3 : S16x64x1x30.BroadcastsInDim S16x64x2x30 (![0, 1, 2, 3] : Fin 4 → Fin S16x64x2x30.rank)
  bcast_S1x64x2x1_S16x64x2x30_0_1_2_3 : S1x64x2x1.BroadcastsInDim S16x64x2x30 (![0, 1, 2, 3] : Fin 4 → Fin S16x64x2x30.rank)
  shapeCasts_S128_S1x64x2x1 : S128.ShapeCasts S1x64x2x1
  shapeCasts_S16x64x2x30_S16x32x120 : S16x64x2x30.ShapeCasts S16x32x120
  reducesTo_S16x32x120_S16x32_d2 : S16x32x120.ReducesTo [2] S16x32
  bcast_S16x32_S16x32x1_0_1 : S16x32.BroadcastsInDim S16x32x1 (![0, 1] : Fin 2 → Fin S16x32x1.rank)
  bcast_S_S16x32x1 : S_.BroadcastsInDim S16x32x1 (![] : Fin 0 → Fin S16x32x1.rank)
  bcast_S16x32x1_S16x32x120_0_1_2 : S16x32x1.BroadcastsInDim S16x32x120 (![0, 1, 2] : Fin 3 → Fin S16x32x120.rank)
  bcast_S_S16x32x120 : S_.BroadcastsInDim S16x32x120 (![] : Fin 0 → Fin S16x32x120.rank)
  bcast_S16x32x120_S16x32x1x120_0_1_3 : S16x32x120.BroadcastsInDim S16x32x1x120 (![0, 1, 3] : Fin 3 → Fin S16x32x1x120.rank)
  bcast_S32x2_S1x32x2x1_1_2 : S32x2.BroadcastsInDim S1x32x2x1 (![1, 2] : Fin 2 → Fin S1x32x2x1.rank)
  bcast_S16x32x1x120_S16x32x2x120_0_1_2_3 : S16x32x1x120.BroadcastsInDim S16x32x2x120 (![0, 1, 2, 3] : Fin 4 → Fin S16x32x2x120.rank)
  bcast_S1x32x2x1_S16x32x2x120_0_1_2_3 : S1x32x2x1.BroadcastsInDim S16x32x2x120 (![0, 1, 2, 3] : Fin 4 → Fin S16x32x2x120.rank)
  shapeCasts_S64_S1x32x2x1 : S64.ShapeCasts S1x32x2x1
  shapeCasts_S16x32x2x120_S16x16x480 : S16x32x2x120.ShapeCasts S16x16x480
  reducesTo_S16x16x480_S16x16_d2 : S16x16x480.ReducesTo [2] S16x16
  bcast_S16x16_S16x16x1_0_1 : S16x16.BroadcastsInDim S16x16x1 (![0, 1] : Fin 2 → Fin S16x16x1.rank)
  bcast_S_S16x16x1 : S_.BroadcastsInDim S16x16x1 (![] : Fin 0 → Fin S16x16x1.rank)
  bcast_S16x16x1_S16x16x480_0_1_2 : S16x16x1.BroadcastsInDim S16x16x480 (![0, 1, 2] : Fin 3 → Fin S16x16x480.rank)
  bcast_S_S16x16x480 : S_.BroadcastsInDim S16x16x480 (![] : Fin 0 → Fin S16x16x480.rank)
  bcast_S16x16x480_S16x16x1x480_0_1_3 : S16x16x480.BroadcastsInDim S16x16x1x480 (![0, 1, 3] : Fin 3 → Fin S16x16x1x480.rank)
  bcast_S16x4_S1x16x4x1_1_2 : S16x4.BroadcastsInDim S1x16x4x1 (![1, 2] : Fin 2 → Fin S1x16x4x1.rank)
  bcast_S16x16x1x480_S16x16x4x480_0_1_2_3 : S16x16x1x480.BroadcastsInDim S16x16x4x480 (![0, 1, 2, 3] : Fin 4 → Fin S16x16x4x480.rank)
  bcast_S1x16x4x1_S16x16x4x480_0_1_2_3 : S1x16x4x1.BroadcastsInDim S16x16x4x480 (![0, 1, 2, 3] : Fin 4 → Fin S16x16x4x480.rank)
  shapeCasts_S64_S1x16x4x1 : S64.ShapeCasts S1x16x4x1
  shapeCasts_S16x16x4x480_S16x16x1920 : S16x16x4x480.ShapeCasts S16x16x1920
  reducesTo_S16x16x1920_S16x16_d2 : S16x16x1920.ReducesTo [2] S16x16
  bcast_S16x16x1_S16x16x1920_0_1_2 : S16x16x1.BroadcastsInDim S16x16x1920 (![0, 1, 2] : Fin 3 → Fin S16x16x1920.rank)
  bcast_S_S16x16x1920 : S_.BroadcastsInDim S16x16x1920 (![] : Fin 0 → Fin S16x16x1920.rank)
  transposes_S3x16x1920_S16x3x1920_1_0_2 : S3x16x1920.Transposes [1, 0, 2] S16x3x1920
  bcast_S3_S1x3x1_1 : S3.BroadcastsInDim S1x3x1 (![1] : Fin 1 → Fin S1x3x1.rank)
  bcast_S1x3x1_S16x3x1920_0_1_2 : S1x3x1.BroadcastsInDim S16x3x1920 (![0, 1, 2] : Fin 3 → Fin S16x3x1920.rank)
  bcast_S_S16x3x1920 : S_.BroadcastsInDim S16x3x1920 (![] : Fin 0 → Fin S16x3x1920.rank)
  reducesTo_S16x3x1920_S16x3_d2 : S16x3x1920.ReducesTo [2] S16x3
  bcast_S_S16x1x128x128x128 : S_.BroadcastsInDim S16x1x128x128x128 (![] : Fin 0 → Fin S16x1x128x128x128.rank)
  slices_S16x3_S16x1_0_0 : S16x3.Slices ![0, 0] S16x1
  shapeCasts_S16x1_S16 : S16x1.ShapeCasts S16
  bcast_S16_S16x1x128x128x128_0 : S16.BroadcastsInDim S16x1x128x128x128 (![0] : Fin 1 → Fin S16x1x128x128x128.rank)
  slices_S16x3_S16x1_0_1 : S16x3.Slices ![0, 1] S16x1
  slices_S16x3_S16x1_0_2 : S16x3.Slices ![0, 2] S16x1
  dot_S240x256_S16x256x8_S240x16x8_1_1_0_02_n_n_wf : DotDims.WF S240x256 S16x256x8 S240x16x8 [1] [1] [0] [0, 2] [] []
  dot_S3x16_S16x16x1920_S3x16x1920_1_1_0_02_n_n_wf : DotDims.WF S3x16 S16x16x1920 S3x16x1920 [1] [1] [0] [0, 2] [] []

variable [Facts]

def dot_S240x256_S16x256x8_S240x16x8_1_1_0_02_n_n : DotDims S240x256 S16x256x8 S240x16x8 where
  lhsContracting := [1]
  rhsContracting := [1]
  lhsNonContracting := [0]
  rhsNonContracting := [0, 2]
  lhsBatch := []
  rhsBatch := []
  wf := dot_S240x256_S16x256x8_S240x16x8_1_1_0_02_n_n_wf
def dot_S3x16_S16x16x1920_S3x16x1920_1_1_0_02_n_n : DotDims S3x16 S16x16x1920 S3x16x1920 where
  lhsContracting := [1]
  rhsContracting := [1]
  lhsNonContracting := [0]
  rhsNonContracting := [0, 2]
  lhsBatch := []
  rhsBatch := []
  wf := dot_S3x16_S16x16x1920_S3x16x1920_1_1_0_02_n_n_wf
def fn_where {F : FTy → Type} [FloatOps F] (arg0 : IVec S_ 1) (arg1 : FVec F S16x64x1 .f32) (arg2 : FVec F S_ .f32) : FVec F S16x64x1 .f32 :=
  let v0 : FVec F S_ .f32 := id arg2
  let v1 : FVec F S16x64x1 .f32 := broadcastInDim S16x64x1 ![] bcast_S_S16x64x1 v0
  let v2 : FVec F S16x64x1 .f32 := (fun p a b => select (broadcastInDim S16x64x1 ![] bcast_S_S16x64x1 p) a b) arg0 arg1 v1
  v2

def fn_var {F : FTy → Type} [FloatOps F] (arg0 : FVec F S16x64x30 .f32) (arg1 : IVec S_ 32) : FVec F S16x64x1 .f32 :=
  let cst : FVec F S_ .f32 := constant S_ .f32 0x00000000#32
  let v0 : FVec F S16x64 .f32 := (fun x v => Host.reduceAdd x v reducesTo_S16x64x30_S16x64_d2 h_S_) arg0 cst
  let v1 : FVec F S16x64x1 .f32 := broadcastInDim S16x64x1 ![0, 1] bcast_S16x64_S16x64x1_0_1 v0
  let cst_0 : FVec F S_ .f32 := constant S_ .f32 0x41F00000#32
  let v2 : FVec F S16x64x1 .f32 := broadcastInDim S16x64x1 ![] bcast_S_S16x64x1 cst_0
  let v3 : FVec F S16x64x1 .f32 := Host.divf v1 v2
  let v4 : FVec F S16x64x30 .f32 := broadcastInDim S16x64x30 ![0, 1, 2] bcast_S16x64x1_S16x64x30_0_1_2 v3
  let v5 : FVec F S16x64x30 .f32 := subf arg0 v4
  let v6 : FVec F S16x64x30 .f32 := mulf v5 v5
  let v7 : FVec F S_ .f32 := sitofp .f32 arg1
  let cst_1 : FVec F S_ .f32 := constant S_ .f32 0x41F00000#32
  let v8 : FVec F S_ .f32 := subf cst_1 v7
  let cst_2 : FVec F S_ .f32 := constant S_ .f32 0x00000000#32
  let v9 : FVec F S16x64 .f32 := (fun x v => Host.reduceAdd x v reducesTo_S16x64x30_S16x64_d2 h_S_) v6 cst_2
  let v10 : FVec F S16x64x1 .f32 := broadcastInDim S16x64x1 ![0, 1] bcast_S16x64_S16x64x1_0_1 v9
  let v11 : FVec F S16x64x1 .f32 := broadcastInDim S16x64x1 ![] bcast_S_S16x64x1 v8
  let v12 : FVec F S16x64x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S16x64x1 .f32 := fn_where (F := F) v13 v12 cst_4
  v14

def fn_relu {F : FTy → Type} [FloatOps F] (arg0 : FVec F S16x64x30 .f32) : FVec F S16x64x30 .f32 :=
  let cst : FVec F S_ .f32 := constant S_ .f32 0x00000000#32
  let v0 : FVec F S16x64x30 .f32 := broadcastInDim S16x64x30 ![] bcast_S_S16x64x30 cst
  let v1 : FVec F S16x64x30 .f32 := maximumf arg0 v0
  v1

def fn_where_1 {F : FTy → Type} [FloatOps F] (arg0 : IVec S_ 1) (arg1 : FVec F S16x32x1 .f32) (arg2 : FVec F S_ .f32) : FVec F S16x32x1 .f32 :=
  let v0 : FVec F S_ .f32 := id arg2
  let v1 : FVec F S16x32x1 .f32 := broadcastInDim S16x32x1 ![] bcast_S_S16x32x1 v0
  let v2 : FVec F S16x32x1 .f32 := (fun p a b => select (broadcastInDim S16x32x1 ![] bcast_S_S16x32x1 p) a b) arg0 arg1 v1
  v2

def fn_var_0 {F : FTy → Type} [FloatOps F] (arg0 : FVec F S16x32x120 .f32) (arg1 : IVec S_ 32) : FVec F S16x32x1 .f32 :=
  let cst : FVec F S_ .f32 := constant S_ .f32 0x00000000#32
  let v0 : FVec F S16x32 .f32 := (fun x v => Host.reduceAdd x v reducesTo_S16x32x120_S16x32_d2 h_S_) arg0 cst
  let v1 : FVec F S16x32x1 .f32 := broadcastInDim S16x32x1 ![0, 1] bcast_S16x32_S16x32x1_0_1 v0
  let cst_0 : FVec F S_ .f32 := constant S_ .f32 0x42F00000#32
  let v2 : FVec F S16x32x1 .f32 := broadcastInDim S16x32x1 ![] bcast_S_S16x32x1 cst_0
  let v3 : FVec F S16x32x1 .f32 := Host.divf v1 v2
  let v4 : FVec F S16x32x120 .f32 := broadcastInDim S16x32x120 ![0, 1, 2] bcast_S16x32x1_S16x32x120_0_1_2 v3
  let v5 : FVec F S16x32x120 .f32 := subf arg0 v4
  let v6 : FVec F S16x32x120 .f32 := mulf v5 v5
  let v7 : FVec F S_ .f32 := sitofp .f32 arg1
  let cst_1 : FVec F S_ .f32 := constant S_ .f32 0x42F00000#32
  let v8 : FVec F S_ .f32 := subf cst_1 v7
  let cst_2 : FVec F S_ .f32 := constant S_ .f32 0x00000000#32
  let v9 : FVec F S16x32 .f32 := (fun x v => Host.reduceAdd x v reducesTo_S16x32x120_S16x32_d2 h_S_) v6 cst_2
  let v10 : FVec F S16x32x1 .f32 := broadcastInDim S16x32x1 ![0, 1] bcast_S16x32_S16x32x1_0_1 v9
  let v11 : FVec F S16x32x1 .f32 := broadcastInDim S16x32x1 ![] bcast_S_S16x32x1 v8
  let v12 : FVec F S16x32x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S16x32x1 .f32 := fn_where_1 (F := F) v13 v12 cst_4
  v14

def fn_relu_2 {F : FTy → Type} [FloatOps F] (arg0 : FVec F S16x32x120 .f32) : FVec F S16x32x120 .f32 :=
  let cst : FVec F S_ .f32 := constant S_ .f32 0x00000000#32
  let v0 : FVec F S16x32x120 .f32 := broadcastInDim S16x32x120 ![] bcast_S_S16x32x120 cst
  let v1 : FVec F S16x32x120 .f32 := maximumf arg0 v0
  v1

def fn_where_4 {F : FTy → Type} [FloatOps F] (arg0 : IVec S_ 1) (arg1 : FVec F S16x16x1 .f32) (arg2 : FVec F S_ .f32) : FVec F S16x16x1 .f32 :=
  let v0 : FVec F S_ .f32 := id arg2
  let v1 : FVec F S16x16x1 .f32 := broadcastInDim S16x16x1 ![] bcast_S_S16x16x1 v0
  let v2 : FVec F S16x16x1 .f32 := (fun p a b => select (broadcastInDim S16x16x1 ![] bcast_S_S16x16x1 p) a b) arg0 arg1 v1
  v2

def fn_var_3 {F : FTy → Type} [FloatOps F] (arg0 : FVec F S16x16x480 .f32) (arg1 : IVec S_ 32) : FVec F S16x16x1 .f32 :=
  let cst : FVec F S_ .f32 := constant S_ .f32 0x00000000#32
  let v0 : FVec F S16x16 .f32 := (fun x v => Host.reduceAdd x v reducesTo_S16x16x480_S16x16_d2 h_S_) arg0 cst
  let v1 : FVec F S16x16x1 .f32 := broadcastInDim S16x16x1 ![0, 1] bcast_S16x16_S16x16x1_0_1 v0
  let cst_0 : FVec F S_ .f32 := constant S_ .f32 0x43F00000#32
  let v2 : FVec F S16x16x1 .f32 := broadcastInDim S16x16x1 ![] bcast_S_S16x16x1 cst_0
  let v3 : FVec F S16x16x1 .f32 := Host.divf v1 v2
  let v4 : FVec F S16x16x480 .f32 := broadcastInDim S16x16x480 ![0, 1, 2] bcast_S16x16x1_S16x16x480_0_1_2 v3
  let v5 : FVec F S16x16x480 .f32 := subf arg0 v4
  let v6 : FVec F S16x16x480 .f32 := mulf v5 v5
  let v7 : FVec F S_ .f32 := sitofp .f32 arg1
  let cst_1 : FVec F S_ .f32 := constant S_ .f32 0x43F00000#32
  let v8 : FVec F S_ .f32 := subf cst_1 v7
  let cst_2 : FVec F S_ .f32 := constant S_ .f32 0x00000000#32
  let v9 : FVec F S16x16 .f32 := (fun x v => Host.reduceAdd x v reducesTo_S16x16x480_S16x16_d2 h_S_) v6 cst_2
  let v10 : FVec F S16x16x1 .f32 := broadcastInDim S16x16x1 ![0, 1] bcast_S16x16_S16x16x1_0_1 v9
  let v11 : FVec F S16x16x1 .f32 := broadcastInDim S16x16x1 ![] bcast_S_S16x16x1 v8
  let v12 : FVec F S16x16x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S16x16x1 .f32 := fn_where_4 (F := F) v13 v12 cst_4
  v14

def fn_relu_5 {F : FTy → Type} [FloatOps F] (arg0 : FVec F S16x16x480 .f32) : FVec F S16x16x480 .f32 :=
  let cst : FVec F S_ .f32 := constant S_ .f32 0x00000000#32
  let v0 : FVec F S16x16x480 .f32 := broadcastInDim S16x16x480 ![] bcast_S_S16x16x480 cst
  let v1 : FVec F S16x16x480 .f32 := maximumf arg0 v0
  v1

def fn_var_6 {F : FTy → Type} [FloatOps F] (arg0 : FVec F S16x16x1920 .f32) (arg1 : IVec S_ 32) : FVec F S16x16x1 .f32 :=
  let cst : FVec F S_ .f32 := constant S_ .f32 0x00000000#32
  let v0 : FVec F S16x16 .f32 := (fun x v => Host.reduceAdd x v reducesTo_S16x16x1920_S16x16_d2 h_S_) arg0 cst
  let v1 : FVec F S16x16x1 .f32 := broadcastInDim S16x16x1 ![0, 1] bcast_S16x16_S16x16x1_0_1 v0
  let cst_0 : FVec F S_ .f32 := constant S_ .f32 0x44F00000#32
  let v2 : FVec F S16x16x1 .f32 := broadcastInDim S16x16x1 ![] bcast_S_S16x16x1 cst_0
  let v3 : FVec F S16x16x1 .f32 := Host.divf v1 v2
  let v4 : FVec F S16x16x1920 .f32 := broadcastInDim S16x16x1920 ![0, 1, 2] bcast_S16x16x1_S16x16x1920_0_1_2 v3
  let v5 : FVec F S16x16x1920 .f32 := subf arg0 v4
  let v6 : FVec F S16x16x1920 .f32 := mulf v5 v5
  let v7 : FVec F S_ .f32 := sitofp .f32 arg1
  let cst_1 : FVec F S_ .f32 := constant S_ .f32 0x44F00000#32
  let v8 : FVec F S_ .f32 := subf cst_1 v7
  let cst_2 : FVec F S_ .f32 := constant S_ .f32 0x00000000#32
  let v9 : FVec F S16x16 .f32 := (fun x v => Host.reduceAdd x v reducesTo_S16x16x1920_S16x16_d2 h_S_) v6 cst_2
  let v10 : FVec F S16x16x1 .f32 := broadcastInDim S16x16x1 ![0, 1] bcast_S16x16_S16x16x1_0_1 v9
  let v11 : FVec F S16x16x1 .f32 := broadcastInDim S16x16x1 ![] bcast_S_S16x16x1 v8
  let v12 : FVec F S16x16x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S16x16x1 .f32 := fn_where_4 (F := F) v13 v12 cst_4
  v14

def fn_relu_7 {F : FTy → Type} [FloatOps F] (arg0 : FVec F S16x16x1920 .f32) : FVec F S16x16x1920 .f32 :=
  let cst : FVec F S_ .f32 := constant S_ .f32 0x00000000#32
  let v0 : FVec F S16x16x1920 .f32 := broadcastInDim S16x16x1920 ![] bcast_S_S16x16x1920 cst
  let v1 : FVec F S16x16x1920 .f32 := maximumf arg0 v0
  v1

def fn_part8 {F : FTy → Type} [FloatOps F] (main_v144 : IVec S16x1x128x128x128 1) (main_v146 : FVec F S16x1x128x128x128 .f32) (main_v155 : IVec S16x1x128x128x128 1) (main_v157 : IVec S16x1x128x128x128 1) (main_v158 : FVec F S16x1 .f32) : IVec S16x1x128x128x128 1 :=
  let main_v159 : FVec F S16 .f32 := shapeCast S16 main_v158 shapeCasts_S16x1_S16
  let main_v160 : FVec F S16x1x128x128x128 .f32 := broadcastInDim S16x1x128x128x128 ![0] bcast_S16_S16x1x128x128x128_0 main_v159
  let main_v161 : FVec F S16x1x128x128x128 .f32 := addf main_v160 main_v146
  let main_cst_31 : FVec F S_ .f32 := constant S_ .f32 0x437C0000#32
  let main_v162 : FVec F S16x1x128x128x128 .f32 := broadcastInDim S16x1x128x128x128 ![] bcast_S_S16x1x128x128x128 main_cst_31
  let main_v163 : IVec S16x1x128x128x128 1 := cmpf .ole main_v161 main_v162
  let main_v164 : IVec S16x1x128x128x128 1 := ori main_v157 main_v163
  let main_v165 : IVec S16x1x128x128x128 1 := andi main_v155 main_v164
  let main_v166 : IVec S16x1x128x128x128 1 := andi main_v144 main_v165
  main_v166

def fn_part7 {F : FTy → Type} [FloatOps F] (main_v100 : FVec F S16x3 .f32) (main_v101 : FVec F S16x3 .f32) (main_v122 : IVec S16x1x128x128x128 1) (main_v124 : FVec F S16x1x128x128x128 .f32) (main_v133 : IVec S16x1x128x128x128 1) (main_v135 : IVec S16x1x128x128x128 1) (main_v138 : FVec F S16x1x128x128x128 .f32) : IVec S16x1x128x128x128 1 :=
  let main_v139 : FVec F S16x1x128x128x128 .f32 := addf main_v138 main_v124
  let main_cst_27 : FVec F S_ .f32 := constant S_ .f32 0x437C0000#32
  let main_v140 : FVec F S16x1x128x128x128 .f32 := broadcastInDim S16x1x128x128x128 ![] bcast_S_S16x1x128x128x128 main_cst_27
  let main_v141 : IVec S16x1x128x128x128 1 := cmpf .ole main_v139 main_v140
  let main_v142 : IVec S16x1x128x128x128 1 := ori main_v135 main_v141
  let main_v143 : IVec S16x1x128x128x128 1 := andi main_v133 main_v142
  let main_v144 : IVec S16x1x128x128x128 1 := andi main_v122 main_v143
  let main_v145 : IVec S16x1x128x128x128 32 := iotaInDim S16x1x128x128x128 32 2
  let main_v146 : FVec F S16x1x128x128x128 .f32 := sitofp .f32 main_v145
  let main_c_28 : IVec S_ 32 := constantI S_ 32 2#32
  let main_v147 : IVec S16x1x128x128x128 32 := broadcastInDim S16x1x128x128x128 ![] bcast_S_S16x1x128x128x128 main_c_28
  let main_v148 : IVec S16x1x128x128x128 1 := cmpi .sge main_v145 main_v147
  let main_v149 : FVec F S16x1 .f32 := (extractStridedSlice S16x1 ![0, 2] · slices_S16x3_S16x1_0_2) main_v100
  let main_v150 : FVec F S16 .f32 := shapeCast S16 main_v149 shapeCasts_S16x1_S16
  let main_v151 : FVec F S16x1x128x128x128 .f32 := broadcastInDim S16x1x128x128x128 ![0] bcast_S16_S16x1x128x128x128_0 main_v150
  let main_v152 : FVec F S16x1x128x128x128 .f32 := addf main_v151 main_v146
  let main_cst_29 : FVec F S_ .f32 := constant S_ .f32 0x40000000#32
  let main_v153 : FVec F S16x1x128x128x128 .f32 := broadcastInDim S16x1x128x128x128 ![] bcast_S_S16x1x128x128x128 main_cst_29
  let main_v154 : IVec S16x1x128x128x128 1 := cmpf .oge main_v152 main_v153
  let main_v155 : IVec S16x1x128x128x128 1 := ori main_v148 main_v154
  let main_c_30 : IVec S_ 32 := constantI S_ 32 125#32
  let main_v156 : IVec S16x1x128x128x128 32 := broadcastInDim S16x1x128x128x128 ![] bcast_S_S16x1x128x128x128 main_c_30
  let main_v157 : IVec S16x1x128x128x128 1 := cmpi .sle main_v145 main_v156
  let main_v158 : FVec F S16x1 .f32 := (extractStridedSlice S16x1 ![0, 2] · slices_S16x3_S16x1_0_2) main_v101
  fn_part8 (F := F) main_v144 main_v146 main_v155 main_v157 main_v158

def fn_part6 {F : FTy → Type} [FloatOps F] (main_v100 : FVec F S16x3 .f32) (main_v101 : FVec F S16x3 .f32) (main_v112 : IVec S16x1x128x128x128 1) (main_v114 : IVec S16x1x128x128x128 1) (main_v118 : FVec F S16x1x128x128x128 .f32) : IVec S16x1x128x128x128 1 :=
  let main_cst_23 : FVec F S_ .f32 := constant S_ .f32 0x437C0000#32
  let main_v119 : FVec F S16x1x128x128x128 .f32 := broadcastInDim S16x1x128x128x128 ![] bcast_S_S16x1x128x128x128 main_cst_23
  let main_v120 : IVec S16x1x128x128x128 1 := cmpf .ole main_v118 main_v119
  let main_v121 : IVec S16x1x128x128x128 1 := ori main_v114 main_v120
  let main_v122 : IVec S16x1x128x128x128 1 := andi main_v112 main_v121
  let main_v123 : IVec S16x1x128x128x128 32 := iotaInDim S16x1x128x128x128 32 3
  let main_v124 : FVec F S16x1x128x128x128 .f32 := sitofp .f32 main_v123
  let main_c_24 : IVec S_ 32 := constantI S_ 32 2#32
  let main_v125 : IVec S16x1x128x128x128 32 := broadcastInDim S16x1x128x128x128 ![] bcast_S_S16x1x128x128x128 main_c_24
  let main_v126 : IVec S16x1x128x128x128 1 := cmpi .sge main_v123 main_v125
  let main_v127 : FVec F S16x1 .f32 := (extractStridedSlice S16x1 ![0, 1] · slices_S16x3_S16x1_0_1) main_v100
  let main_v128 : FVec F S16 .f32 := shapeCast S16 main_v127 shapeCasts_S16x1_S16
  let main_v129 : FVec F S16x1x128x128x128 .f32 := broadcastInDim S16x1x128x128x128 ![0] bcast_S16_S16x1x128x128x128_0 main_v128
  let main_v130 : FVec F S16x1x128x128x128 .f32 := addf main_v129 main_v124
  let main_cst_25 : FVec F S_ .f32 := constant S_ .f32 0x40000000#32
  let main_v131 : FVec F S16x1x128x128x128 .f32 := broadcastInDim S16x1x128x128x128 ![] bcast_S_S16x1x128x128x128 main_cst_25
  let main_v132 : IVec S16x1x128x128x128 1 := cmpf .oge main_v130 main_v131
  let main_v133 : IVec S16x1x128x128x128 1 := ori main_v126 main_v132
  let main_c_26 : IVec S_ 32 := constantI S_ 32 125#32
  let main_v134 : IVec S16x1x128x128x128 32 := broadcastInDim S16x1x128x128x128 ![] bcast_S_S16x1x128x128x128 main_c_26
  let main_v135 : IVec S16x1x128x128x128 1 := cmpi .sle main_v123 main_v134
  let main_v136 : FVec F S16x1 .f32 := (extractStridedSlice S16x1 ![0, 1] · slices_S16x3_S16x1_0_1) main_v101
  let main_v137 : FVec F S16 .f32 := shapeCast S16 main_v136 shapeCasts_S16x1_S16
  let main_v138 : FVec F S16x1x128x128x128 .f32 := broadcastInDim S16x1x128x128x128 ![0] bcast_S16_S16x1x128x128x128_0 main_v137
  fn_part7 (F := F) main_v100 main_v101 main_v122 main_v124 main_v133 main_v135 main_v138

def fn_part5 {F : FTy → Type} [FloatOps F] (main_v99 : FVec F S16x3x1920 .f32) : IVec S16x1x128x128x128 1 :=
  let main_cst_18 : FVec F S_ .f32 := constant S_ .f32 0x7F800000#32
  let main_v100 : FVec F S16x3 .f32 := (fun x v => Host.reduce FloatOps.minimumf x v reducesTo_S16x3x1920_S16x3_d2 h_S_) main_v99 main_cst_18
  let main_cst_19 : FVec F S_ .f32 := constant S_ .f32 0xFF800000#32
  let main_v101 : FVec F S16x3 .f32 := (fun x v => Host.reduce FloatOps.maximumf x v reducesTo_S16x3x1920_S16x3_d2 h_S_) main_v99 main_cst_19
  let main_v102 : IVec S16x1x128x128x128 32 := iotaInDim S16x1x128x128x128 32 4
  let main_v103 : FVec F S16x1x128x128x128 .f32 := sitofp .f32 main_v102
  let main_c_20 : IVec S_ 32 := constantI S_ 32 2#32
  let main_v104 : IVec S16x1x128x128x128 32 := broadcastInDim S16x1x128x128x128 ![] bcast_S_S16x1x128x128x128 main_c_20
  let main_v105 : IVec S16x1x128x128x128 1 := cmpi .sge main_v102 main_v104
  let main_v106 : FVec F S16x1 .f32 := (extractStridedSlice S16x1 ![0, 0] · slices_S16x3_S16x1_0_0) main_v100
  let main_v107 : FVec F S16 .f32 := shapeCast S16 main_v106 shapeCasts_S16x1_S16
  let main_v108 : FVec F S16x1x128x128x128 .f32 := broadcastInDim S16x1x128x128x128 ![0] bcast_S16_S16x1x128x128x128_0 main_v107
  let main_v109 : FVec F S16x1x128x128x128 .f32 := addf main_v108 main_v103
  let main_cst_21 : FVec F S_ .f32 := constant S_ .f32 0x40000000#32
  let main_v110 : FVec F S16x1x128x128x128 .f32 := broadcastInDim S16x1x128x128x128 ![] bcast_S_S16x1x128x128x128 main_cst_21
  let main_v111 : IVec S16x1x128x128x128 1 := cmpf .oge main_v109 main_v110
  let main_v112 : IVec S16x1x128x128x128 1 := ori main_v105 main_v111
  let main_c_22 : IVec S_ 32 := constantI S_ 32 125#32
  let main_v113 : IVec S16x1x128x128x128 32 := broadcastInDim S16x1x128x128x128 ![] bcast_S_S16x1x128x128x128 main_c_22
  let main_v114 : IVec S16x1x128x128x128 1 := cmpi .sle main_v102 main_v113
  let main_v115 : FVec F S16x1 .f32 := (extractStridedSlice S16x1 ![0, 0] · slices_S16x3_S16x1_0_0) main_v101
  let main_v116 : FVec F S16 .f32 := shapeCast S16 main_v115 shapeCasts_S16x1_S16
  let main_v117 : FVec F S16x1x128x128x128 .f32 := broadcastInDim S16x1x128x128x128 ![0] bcast_S16_S16x1x128x128x128_0 main_v116
  let main_v118 : FVec F S16x1x128x128x128 .f32 := addf main_v117 main_v103
  fn_part6 (F := F) main_v100 main_v101 main_v112 main_v114 main_v118

def fn_part4 {F : FTy → Type} [FloatOps F] (main_arg10 : FVec F S3x16 .f32) (main_arg11 : FVec F S3 .f32) (main_v77 : FVec F S16x16x1 .f32) (main_v79 : FVec F S16x16x1920 .f32) (main_cst_13 : FVec F S_ .f32) : IVec S16x1x128x128x128 1 :=
  let main_v80 : FVec F S16x16x1 .f32 := broadcastInDim S16x16x1 ![] bcast_S_S16x16x1 main_cst_13
  let main_v81 : FVec F S16x16x1 .f32 := addf main_v77 main_v80
  let main_v82 : FVec F S16x16x1 .f32 := Host.rsqrt main_v81
  let main_v83 : FVec F S16x16x1920 .f32 := broadcastInDim S16x16x1920 ![0, 1, 2] bcast_S16x16x1_S16x16x1920_0_1_2 main_v82
  let main_v84 : FVec F S16x16x1920 .f32 := mulf main_v79 main_v83
  let main_v85 : FVec F S16x16x1920 .f32 := fn_relu_7 (F := F) main_v84
  let main_v86 : FVec F S3x16x1920 .f32 := (fun l r => Host.dotGeneral dot_S3x16_S16x16x1920_S3x16x1920_1_1_0_02_n_n none l r) main_arg10 main_v85
  let main_v87 : FVec F S16x3x1920 .f32 := (transpose S16x3x1920 [1, 0, 2] · transposes_S3x16x1920_S16x3x1920_1_0_2) main_v86
  let main_v88 : FVec F S1x3x1 .f32 := broadcastInDim S1x3x1 ![1] bcast_S3_S1x3x1_1 main_arg11
  let main_v89 : FVec F S16x3x1920 .f32 := broadcastInDim S16x3x1920 ![0, 1, 2] bcast_S1x3x1_S16x3x1920_0_1_2 main_v88
  let main_v90 : FVec F S16x3x1920 .f32 := addf main_v87 main_v89
  let main_v91 : FVec F S16x3x1920 .f32 := Host.tanh main_v90
  let main_cst_14 : FVec F S_ .f32 := constant S_ .f32 0x3F800000#32
  let main_v92 : FVec F S16x3x1920 .f32 := broadcastInDim S16x3x1920 ![] bcast_S_S16x3x1920 main_cst_14
  let main_v93 : FVec F S16x3x1920 .f32 := addf main_v91 main_v92
  let main_cst_15 : FVec F S_ .f32 := constant S_ .f32 0x43000000#32
  let main_v94 : FVec F S16x3x1920 .f32 := broadcastInDim S16x3x1920 ![] bcast_S_S16x3x1920 main_cst_15
  let main_v95 : FVec F S16x3x1920 .f32 := mulf main_v93 main_v94
  let main_cst_16 : FVec F S_ .f32 := constant S_ .f32 0x3F800000#32
  let main_v96 : FVec F S16x3x1920 .f32 := broadcastInDim S16x3x1920 ![] bcast_S_S16x3x1920 main_cst_16
  let main_v97 : FVec F S16x3x1920 .f32 := subf main_v95 main_v96
  let main_cst_17 : FVec F S_ .f32 := constant S_ .f32 0x3F000000#32
  let main_v98 : FVec F S16x3x1920 .f32 := broadcastInDim S16x3x1920 ![] bcast_S_S16x3x1920 main_cst_17
  let main_v99 : FVec F S16x3x1920 .f32 := mulf main_v97 main_v98
  fn_part5 (F := F) main_v99

def fn_part3 {F : FTy → Type} [FloatOps F] (main_arg8 : FVec F S16x4 .f32) (main_arg9 : FVec F S64 .f32) (main_arg10 : FVec F S3x16 .f32) (main_arg11 : FVec F S3 .f32) (main_v57 : FVec F S16x16x480 .f32) (main_v59 : FVec F S16x16x1 .f32) : IVec S16x1x128x128x128 1 :=
  let main_v60 : FVec F S16x16x1 .f32 := Host.rsqrt main_v59
  let main_v61 : FVec F S16x16x480 .f32 := broadcastInDim S16x16x480 ![0, 1, 2] bcast_S16x16x1_S16x16x480_0_1_2 main_v60
  let main_v62 : FVec F S16x16x480 .f32 := mulf main_v57 main_v61
  let main_v63 : FVec F S16x16x480 .f32 := fn_relu_5 (F := F) main_v62
  let main_v64 : FVec F S16x16x1x480 .f32 := broadcastInDim S16x16x1x480 ![0, 1, 3] bcast_S16x16x480_S16x16x1x480_0_1_3 main_v63
  let main_v65 : FVec F S1x16x4x1 .f32 := broadcastInDim S1x16x4x1 ![1, 2] bcast_S16x4_S1x16x4x1_1_2 main_arg8
  let main_v66 : FVec F S16x16x4x480 .f32 := broadcastInDim S16x16x4x480 ![0, 1, 2, 3] bcast_S16x16x1x480_S16x16x4x480_0_1_2_3 main_v64
  let main_v67 : FVec F S16x16x4x480 .f32 := broadcastInDim S16x16x4x480 ![0, 1, 2, 3] bcast_S1x16x4x1_S16x16x4x480_0_1_2_3 main_v65
  let main_v68 : FVec F S16x16x4x480 .f32 := mulf main_v66 main_v67
  let main_v69 : FVec F S1x16x4x1 .f32 := shapeCast S1x16x4x1 main_arg9 shapeCasts_S64_S1x16x4x1
  let main_v70 : FVec F S16x16x4x480 .f32 := broadcastInDim S16x16x4x480 ![0, 1, 2, 3] bcast_S1x16x4x1_S16x16x4x480_0_1_2_3 main_v69
  let main_v71 : FVec F S16x16x4x480 .f32 := addf main_v68 main_v70
  let main_v72 : FVec F S16x16x1920 .f32 := shapeCast S16x16x1920 main_v71 shapeCasts_S16x16x4x480_S16x16x1920
  let main_cst_10 : FVec F S_ .f32 := constant S_ .f32 0x00000000#32
  let main_v73 : FVec F S16x16 .f32 := (fun x v => Host.reduceAdd x v reducesTo_S16x16x1920_S16x16_d2 h_S_) main_v72 main_cst_10
  let main_v74 : FVec F S16x16x1 .f32 := broadcastInDim S16x16x1 ![0, 1] bcast_S16x16_S16x16x1_0_1 main_v73
  let main_cst_11 : FVec F S_ .f32 := constant S_ .f32 0x44F00000#32
  let main_v75 : FVec F S16x16x1 .f32 := broadcastInDim S16x16x1 ![] bcast_S_S16x16x1 main_cst_11
  let main_v76 : FVec F S16x16x1 .f32 := Host.divf main_v74 main_v75
  let main_c_12 : IVec S_ 32 := constantI S_ 32 0#32
  let main_v77 : FVec F S16x16x1 .f32 := fn_var_6 (F := F) main_v72 main_c_12
  let main_v78 : FVec F S16x16x1920 .f32 := broadcastInDim S16x16x1920 ![0, 1, 2] bcast_S16x16x1_S16x16x1920_0_1_2 main_v76
  let main_v79 : FVec F S16x16x1920 .f32 := subf main_v72 main_v78
  let main_cst_13 : FVec F S_ .f32 := constant S_ .f32 0x3727C5AC#32
  fn_part4 (F := F) main_arg10 main_arg11 main_v77 main_v79 main_cst_13

def fn_part2 {F : FTy → Type} [FloatOps F] (main_arg6 : FVec F S32x2 .f32) (main_arg7 : FVec F S64 .f32) (main_arg8 : FVec F S16x4 .f32) (main_arg9 : FVec F S64 .f32) (main_arg10 : FVec F S3x16 .f32) (main_arg11 : FVec F S3 .f32) (main_v35 : FVec F S16x32x120 .f32) (main_v39 : FVec F S16x32x120 .f32) : IVec S16x1x128x128x128 1 :=
  let main_v40 : FVec F S16x32x120 .f32 := mulf main_v35 main_v39
  let main_v41 : FVec F S16x32x120 .f32 := fn_relu_2 (F := F) main_v40
  let main_v42 : FVec F S16x32x1x120 .f32 := broadcastInDim S16x32x1x120 ![0, 1, 3] bcast_S16x32x120_S16x32x1x120_0_1_3 main_v41
  let main_v43 : FVec F S1x32x2x1 .f32 := broadcastInDim S1x32x2x1 ![1, 2] bcast_S32x2_S1x32x2x1_1_2 main_arg6
  let main_v44 : FVec F S16x32x2x120 .f32 := broadcastInDim S16x32x2x120 ![0, 1, 2, 3] bcast_S16x32x1x120_S16x32x2x120_0_1_2_3 main_v42
  let main_v45 : FVec F S16x32x2x120 .f32 := broadcastInDim S16x32x2x120 ![0, 1, 2, 3] bcast_S1x32x2x1_S16x32x2x120_0_1_2_3 main_v43
  let main_v46 : FVec F S16x32x2x120 .f32 := mulf main_v44 main_v45
  let main_v47 : FVec F S1x32x2x1 .f32 := shapeCast S1x32x2x1 main_arg7 shapeCasts_S64_S1x32x2x1
  let main_v48 : FVec F S16x32x2x120 .f32 := broadcastInDim S16x32x2x120 ![0, 1, 2, 3] bcast_S1x32x2x1_S16x32x2x120_0_1_2_3 main_v47
  let main_v49 : FVec F S16x32x2x120 .f32 := addf main_v46 main_v48
  let main_v50 : FVec F S16x16x480 .f32 := shapeCast S16x16x480 main_v49 shapeCasts_S16x32x2x120_S16x16x480
  let main_cst_6 : FVec F S_ .f32 := constant S_ .f32 0x00000000#32
  let main_v51 : FVec F S16x16 .f32 := (fun x v => Host.reduceAdd x v reducesTo_S16x16x480_S16x16_d2 h_S_) main_v50 main_cst_6
  let main_v52 : FVec F S16x16x1 .f32 := broadcastInDim S16x16x1 ![0, 1] bcast_S16x16_S16x16x1_0_1 main_v51
  let main_cst_7 : FVec F S_ .f32 := constant S_ .f32 0x43F00000#32
  let main_v53 : FVec F S16x16x1 .f32 := broadcastInDim S16x16x1 ![] bcast_S_S16x16x1 main_cst_7
  let main_v54 : FVec F S16x16x1 .f32 := Host.divf main_v52 main_v53
  let main_c_8 : IVec S_ 32 := constantI S_ 32 0#32
  let main_v55 : FVec F S16x16x1 .f32 := fn_var_3 (F := F) main_v50 main_c_8
  let main_v56 : FVec F S16x16x480 .f32 := broadcastInDim S16x16x480 ![0, 1, 2] bcast_S16x16x1_S16x16x480_0_1_2 main_v54
  let main_v57 : FVec F S16x16x480 .f32 := subf main_v50 main_v56
  let main_cst_9 : FVec F S_ .f32 := constant S_ .f32 0x3727C5AC#32
  let main_v58 : FVec F S16x16x1 .f32 := broadcastInDim S16x16x1 ![] bcast_S_S16x16x1 main_cst_9
  let main_v59 : FVec F S16x16x1 .f32 := addf main_v55 main_v58
  fn_part3 (F := F) main_arg8 main_arg9 main_arg10 main_arg11 main_v57 main_v59

def fn_part1 {F : FTy → Type} [FloatOps F] (main_arg4 : FVec F S64x2 .f32) (main_arg5 : FVec F S128 .f32) (main_arg6 : FVec F S32x2 .f32) (main_arg7 : FVec F S64 .f32) (main_arg8 : FVec F S16x4 .f32) (main_arg9 : FVec F S64 .f32) (main_arg10 : FVec F S3x16 .f32) (main_arg11 : FVec F S3 .f32) (main_v19 : FVec F S16x64x30 .f32) : IVec S16x1x128x128x128 1 :=
  let main_v20 : FVec F S16x64x1x30 .f32 := broadcastInDim S16x64x1x30 ![0, 1, 3] bcast_S16x64x30_S16x64x1x30_0_1_3 main_v19
  let main_v21 : FVec F S1x64x2x1 .f32 := broadcastInDim S1x64x2x1 ![1, 2] bcast_S64x2_S1x64x2x1_1_2 main_arg4
  let main_v22 : FVec F S16x64x2x30 .f32 := broadcastInDim S16x64x2x30 ![0, 1, 2, 3] bcast_S16x64x1x30_S16x64x2x30_0_1_2_3 main_v20
  let main_v23 : FVec F S16x64x2x30 .f32 := broadcastInDim S16x64x2x30 ![0, 1, 2, 3] bcast_S1x64x2x1_S16x64x2x30_0_1_2_3 main_v21
  let main_v24 : FVec F S16x64x2x30 .f32 := mulf main_v22 main_v23
  let main_v25 : FVec F S1x64x2x1 .f32 := shapeCast S1x64x2x1 main_arg5 shapeCasts_S128_S1x64x2x1
  let main_v26 : FVec F S16x64x2x30 .f32 := broadcastInDim S16x64x2x30 ![0, 1, 2, 3] bcast_S1x64x2x1_S16x64x2x30_0_1_2_3 main_v25
  let main_v27 : FVec F S16x64x2x30 .f32 := addf main_v24 main_v26
  let main_v28 : FVec F S16x32x120 .f32 := shapeCast S16x32x120 main_v27 shapeCasts_S16x64x2x30_S16x32x120
  let main_cst_2 : FVec F S_ .f32 := constant S_ .f32 0x00000000#32
  let main_v29 : FVec F S16x32 .f32 := (fun x v => Host.reduceAdd x v reducesTo_S16x32x120_S16x32_d2 h_S_) main_v28 main_cst_2
  let main_v30 : FVec F S16x32x1 .f32 := broadcastInDim S16x32x1 ![0, 1] bcast_S16x32_S16x32x1_0_1 main_v29
  let main_cst_3 : FVec F S_ .f32 := constant S_ .f32 0x42F00000#32
  let main_v31 : FVec F S16x32x1 .f32 := broadcastInDim S16x32x1 ![] bcast_S_S16x32x1 main_cst_3
  let main_v32 : FVec F S16x32x1 .f32 := Host.divf main_v30 main_v31
  let main_c_4 : IVec S_ 32 := constantI S_ 32 0#32
  let main_v33 : FVec F S16x32x1 .f32 := fn_var_0 (F := F) main_v28 main_c_4
  let main_v34 : FVec F S16x32x120 .f32 := broadcastInDim S16x32x120 ![0, 1, 2] bcast_S16x32x1_S16x32x120_0_1_2 main_v32
  let main_v35 : FVec F S16x32x120 .f32 := subf main_v28 main_v34
  let main_cst_5 : FVec F S_ .f32 := constant S_ .f32 0x3727C5AC#32
  let main_v36 : FVec F S16x32x1 .f32 := broadcastInDim S16x32x1 ![] bcast_S_S16x32x1 main_cst_5
  let main_v37 : FVec F S16x32x1 .f32 := addf main_v33 main_v36
  let main_v38 : FVec F S16x32x1 .f32 := Host.rsqrt main_v37
  let main_v39 : FVec F S16x32x120 .f32 := broadcastInDim S16x32x120 ![0, 1, 2] bcast_S16x32x1_S16x32x120_0_1_2 main_v38
  fn_part2 (F := F) main_arg6 main_arg7 main_arg8 main_arg9 main_arg10 main_arg11 main_v35 main_v39

def fn {F : FTy → Type} [FloatOps F] (main_arg0 : FVec F S16x2048 .f32) (main_arg1 : FVec F S1x1x16x120 .f32) (main_arg2 : FVec F S240x256 .f32) (main_arg3 : FVec F S240 .f32) (main_arg4 : FVec F S64x2 .f32) (main_arg5 : FVec F S128 .f32) (main_arg6 : FVec F S32x2 .f32) (main_arg7 : FVec F S64 .f32) (main_arg8 : FVec F S16x4 .f32) (main_arg9 : FVec F S64 .f32) (main_arg10 : FVec F S3x16 .f32) (main_arg11 : FVec F S3 .f32) : IVec S16x1x128x128x128 1 :=
  let main_v0 : FVec F S16x256x8 .f32 := shapeCast S16x256x8 main_arg0 shapeCasts_S16x2048_S16x256x8
  let main_v1 : FVec F S240x16x8 .f32 := (fun l r => Host.dotGeneral dot_S240x256_S16x256x8_S240x16x8_1_1_0_02_n_n none l r) main_arg2 main_v0
  let main_v2 : FVec F S16x240x8 .f32 := (transpose S16x240x8 [1, 0, 2] · transposes_S240x16x8_S16x240x8_1_0_2) main_v1
  let main_v3 : FVec F S1x240x1 .f32 := broadcastInDim S1x240x1 ![1] bcast_S240_S1x240x1_1 main_arg3
  let main_v4 : FVec F S16x240x8 .f32 := broadcastInDim S16x240x8 ![0, 1, 2] bcast_S1x240x1_S16x240x8_0_1_2 main_v3
  let main_v5 : FVec F S16x240x8 .f32 := addf main_v2 main_v4
  let main_v6 : FVec F S16x64x30 .f32 := shapeCast S16x64x30 main_v5 shapeCasts_S16x240x8_S16x64x30
  let main_cst : FVec F S_ .f32 := constant S_ .f32 0x00000000#32
  let main_v7 : FVec F S16x64 .f32 := (fun x v => Host.reduceAdd x v reducesTo_S16x64x30_S16x64_d2 h_S_) main_v6 main_cst
  let main_v8 : FVec F S16x64x1 .f32 := broadcastInDim S16x64x1 ![0, 1] bcast_S16x64_S16x64x1_0_1 main_v7
  let main_cst_0 : FVec F S_ .f32 := constant S_ .f32 0x41F00000#32
  let main_v9 : FVec F S16x64x1 .f32 := broadcastInDim S16x64x1 ![] bcast_S_S16x64x1 main_cst_0
  let main_v10 : FVec F S16x64x1 .f32 := Host.divf main_v8 main_v9
  let main_c : IVec S_ 32 := constantI S_ 32 0#32
  let main_v11 : FVec F S16x64x1 .f32 := fn_var (F := F) main_v6 main_c
  let main_v12 : FVec F S16x64x30 .f32 := broadcastInDim S16x64x30 ![0, 1, 2] bcast_S16x64x1_S16x64x30_0_1_2 main_v10
  let main_v13 : FVec F S16x64x30 .f32 := subf main_v6 main_v12
  let main_cst_1 : FVec F S_ .f32 := constant S_ .f32 0x3727C5AC#32
  let main_v14 : FVec F S16x64x1 .f32 := broadcastInDim S16x64x1 ![] bcast_S_S16x64x1 main_cst_1
  let main_v15 : FVec F S16x64x1 .f32 := addf main_v11 main_v14
  let main_v16 : FVec F S16x64x1 .f32 := Host.rsqrt main_v15
  let main_v17 : FVec F S16x64x30 .f32 := broadcastInDim S16x64x30 ![0, 1, 2] bcast_S16x64x1_S16x64x30_0_1_2 main_v16
  let main_v18 : FVec F S16x64x30 .f32 := mulf main_v13 main_v17
  let main_v19 : FVec F S16x64x30 .f32 := fn_relu (F := F) main_v18
  fn_part1 (F := F) main_arg4 main_arg5 main_arg6 main_arg7 main_arg8 main_arg9 main_arg10 main_arg11 main_v19
-- ==== Kernel.lean ====
abbrev S16x2048 : Shape := ⟨2, ![16, 2048]⟩
abbrev S1x1x16x120 : Shape := ⟨4, ![1, 1, 16, 120]⟩
abbrev S240x256 : Shape := ⟨2, ![240, 256]⟩
abbrev S240 : Shape := ⟨1, ![240]⟩
abbrev S64x2 : Shape := ⟨2, ![64, 2]⟩
abbrev S128 : Shape := ⟨1, ![128]⟩
abbrev S32x2 : Shape := ⟨2, ![32, 2]⟩
abbrev S64 : Shape := ⟨1, ![64]⟩
abbrev S16x4 : Shape := ⟨2, ![16, 4]⟩
abbrev S3x16 : Shape := ⟨2, ![3, 16]⟩
abbrev S3 : Shape := ⟨1, ![3]⟩
abbrev S16x256x8 : Shape := ⟨3, ![16, 256, 8]⟩
abbrev S16x8x256 : Shape := ⟨3, ![16, 8, 256]⟩
abbrev S128x256 : Shape := ⟨2, ![128, 256]⟩
abbrev S256x240 : Shape := ⟨2, ![256, 240]⟩
abbrev S1x240 : Shape := ⟨2, ![1, 240]⟩
abbrev S128x240 : Shape := ⟨2, ![128, 240]⟩
abbrev S16x8x240 : Shape := ⟨3, ![16, 8, 240]⟩
abbrev S16x240x8 : Shape := ⟨3, ![16, 240, 8]⟩
abbrev S16x64x30 : Shape := ⟨3, ![16, 64, 30]⟩
abbrev S16x64x2x30 : Shape := ⟨4, ![16, 64, 2, 30]⟩
abbrev S16x64 : Shape := ⟨2, ![16, 64]⟩
abbrev S16x64x1 : Shape := ⟨3, ![16, 64, 1]⟩
abbrev S16x64x1x30 : Shape := ⟨4, ![16, 64, 1, 30]⟩
abbrev S1x64x2x1 : Shape := ⟨4, ![1, 64, 2, 1]⟩
abbrev S16x32x120 : Shape := ⟨3, ![16, 32, 120]⟩
abbrev S16x32x2x120 : Shape := ⟨4, ![16, 32, 2, 120]⟩
abbrev S16x32 : Shape := ⟨2, ![16, 32]⟩
abbrev S16x32x1 : Shape := ⟨3, ![16, 32, 1]⟩
abbrev S16x32x1x120 : Shape := ⟨4, ![16, 32, 1, 120]⟩
abbrev S1x32x2x1 : Shape := ⟨4, ![1, 32, 2, 1]⟩
abbrev S16x16x480 : Shape := ⟨3, ![16, 16, 480]⟩
abbrev S16x16x4x480 : Shape := ⟨4, ![16, 16, 4, 480]⟩
abbrev S16x16 : Shape := ⟨2, ![16, 16]⟩
abbrev S16x16x1 : Shape := ⟨3, ![16, 16, 1]⟩
abbrev S16x16x1x480 : Shape := ⟨4, ![16, 16, 1, 480]⟩
abbrev S1x16x4x1 : Shape := ⟨4, ![1, 16, 4, 1]⟩
abbrev S16x16x1920 : Shape := ⟨3, ![16, 16, 1920]⟩
abbrev S3x1 : Shape := ⟨2, ![3, 1]⟩
abbrev S16x3x1920 : Shape := ⟨3, ![16, 3, 1920]⟩
abbrev S1x16x1920 : Shape := ⟨3, ![1, 16, 1920]⟩
abbrev S1x3x1920 : Shape := ⟨3, ![1, 3, 1920]⟩
abbrev S16x1920 : Shape := ⟨2, ![16, 1920]⟩
abbrev S16 : Shape := ⟨1, ![16]⟩
abbrev S16x1 : Shape := ⟨2, ![16, 1]⟩
abbrev S3x1920 : Shape := ⟨2, ![3, 1920]⟩
abbrev S1x1920 : Shape := ⟨2, ![1, 1920]⟩
abbrev S16x1x128x128x128 : Shape := ⟨5, ![16, 1, 128, 128, 128]⟩
abbrev S1x1x128x128x128 : Shape := ⟨5, ![1, 1, 128, 128, 128]⟩
abbrev S128x1920 : Shape := ⟨2, ![128, 1920]⟩
abbrev S1x1x1920 : Shape := ⟨3, ![1, 1, 1920]⟩
abbrev S256x1920 : Shape := ⟨2, ![256, 1920]⟩
abbrev S256x256 : Shape := ⟨2, ![256, 256]⟩
abbrev S256x128 : Shape := ⟨2, ![256, 128]⟩
abbrev S128x128 : Shape := ⟨2, ![128, 128]⟩
abbrev S1x1x1x128x128 : Shape := ⟨5, ![1, 1, 1, 128, 128]⟩

abbrev nBuf : Space → Nat
  | .hbm => 34
  | .vmem => 27
  | .smem => 0
  | _ => 0

abbrev bufTy : (tb : Table) → Fin (tcTables nBuf tb) → BufTy
  | .hbm, ⟨0, _⟩ => ⟨S16x2048, .f32⟩
  | .hbm, ⟨1, _⟩ => ⟨S1x1x16x120, .f32⟩
  | .hbm, ⟨2, _⟩ => ⟨S240x256, .f32⟩
  | .hbm, ⟨3, _⟩ => ⟨S240, .f32⟩
  | .hbm, ⟨4, _⟩ => ⟨S64x2, .f32⟩
  | .hbm, ⟨5, _⟩ => ⟨S128, .f32⟩
  | .hbm, ⟨6, _⟩ => ⟨S32x2, .f32⟩
  | .hbm, ⟨7, _⟩ => ⟨S64, .f32⟩
  | .hbm, ⟨8, _⟩ => ⟨S16x4, .f32⟩
  | .hbm, ⟨9, _⟩ => ⟨S64, .f32⟩
  | .hbm, ⟨10, _⟩ => ⟨S3x16, .f32⟩
  | .hbm, ⟨11, _⟩ => ⟨S3, .f32⟩
  | .hbm, ⟨12, _⟩ => ⟨S16x256x8, .f32⟩
  | .hbm, ⟨13, _⟩ => ⟨S16x8x256, .f32⟩
  | .hbm, ⟨14, _⟩ => ⟨S128x256, .f32⟩
  | .hbm, ⟨15, _⟩ => ⟨S256x240, .f32⟩
  | .hbm, ⟨16, _⟩ => ⟨S1x240, .f32⟩
  | .hbm, ⟨17, _⟩ => ⟨S128x240, .f32⟩
  | .hbm, ⟨18, _⟩ => ⟨S16x8x240, .f32⟩
  | .hbm, ⟨19, _⟩ => ⟨S16x240x8, .f32⟩
  | .hbm, ⟨20, _⟩ => ⟨S16x64x30, .f32⟩
  | .hbm, ⟨21, _⟩ => ⟨S64x2, .f32⟩
  | .hbm, ⟨22, _⟩ => ⟨S16x64x2x30, .f32⟩
  | .hbm, ⟨23, _⟩ => ⟨S16x32x120, .f32⟩
  | .hbm, ⟨24, _⟩ => ⟨S32x2, .f32⟩
  | .hbm, ⟨25, _⟩ => ⟨S16x32x2x120, .f32⟩
  | .hbm, ⟨26, _⟩ => ⟨S16x16x480, .f32⟩
  | .hbm, ⟨27, _⟩ => ⟨S16x4, .f32⟩
  | .hbm, ⟨28, _⟩ => ⟨S16x16x4x480, .f32⟩
  | .hbm, ⟨29, _⟩ => ⟨S16x16x1920, .f32⟩
  | .hbm, ⟨30, _⟩ => ⟨S3x1, .f32⟩
  | .hbm, ⟨31, _⟩ => ⟨S16x3x1920, .f32⟩
  | .hbm, ⟨32, _⟩ => ⟨S1x1920, .f32⟩
  | .hbm, ⟨33, _⟩ => ⟨S16x1x128x128x128, .f32⟩
  | .local _ .vmem, ⟨0, _⟩ => ⟨S128x256, .f32⟩
  | .local _ .vmem, ⟨1, _⟩ => ⟨S256x240, .f32⟩
  | .local _ .vmem, ⟨2, _⟩ => ⟨S1x240, .f32⟩
  | .local _ .vmem, ⟨3, _⟩ => ⟨S128x240, .f32⟩
  | .local _ .vmem, ⟨4, _⟩ => ⟨S16x64x30, .f32⟩
  | .local _ .vmem, ⟨5, _⟩ => ⟨S64x2, .f32⟩
  | .local _ .vmem, ⟨6, _⟩ => ⟨S64x2, .f32⟩
  | .local _ .vmem, ⟨7, _⟩ => ⟨S16x64x2x30, .f32⟩
  | .local _ .vmem, ⟨8, _⟩ => ⟨S16x32x120, .f32⟩
  | .local _ .vmem, ⟨9, _⟩ => ⟨S32x2, .f32⟩
  | .local _ .vmem, ⟨10, _⟩ => ⟨S32x2, .f32⟩
  | .local _ .vmem, ⟨11, _⟩ => ⟨S16x32x2x120, .f32⟩
  | .local _ .vmem, ⟨12, _⟩ => ⟨S16x16x480, .f32⟩
  | .local _ .vmem, ⟨13, _⟩ => ⟨S16x4, .f32⟩
  | .local _ .vmem, ⟨14, _⟩ => ⟨S16x4, .f32⟩
  | .local _ .vmem, ⟨15, _⟩ => ⟨S16x16x4x480, .f32⟩
  | .local _ .vmem, ⟨16, _⟩ => ⟨S1x16x1920, .f32⟩
  | .local _ .vmem, ⟨17, _⟩ => ⟨S1x16x1920, .f32⟩
  | .local _ .vmem, ⟨18, _⟩ => ⟨S3x16, .f32⟩
  | .local _ .vmem, ⟨19, _⟩ => ⟨S3x1, .f32⟩
  | .local _ .vmem, ⟨20, _⟩ => ⟨S1x3x1920, .f32⟩
  | .local _ .vmem, ⟨21, _⟩ => ⟨S1x3x1920, .f32⟩
  | .local _ .vmem, ⟨22, _⟩ => ⟨S1x3x1920, .f32⟩
  | .local _ .vmem, ⟨23, _⟩ => ⟨S1x3x1920, .f32⟩
  | .local _ .vmem, ⟨24, _⟩ => ⟨S1x1920, .f32⟩
  | .local _ .vmem, ⟨25, _⟩ => ⟨S1x1x128x128x128, .f32⟩
  | .local _ .vmem, ⟨26, _⟩ => ⟨S1x1x128x128x128, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg2_0 : Ref sig .tc := ⟨.vmem, 19, rfl⟩
abbrev cc4_stg3_0 : Ref sig .tc := ⟨.vmem, 20, rfl⟩
abbrev cc4_stg3_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg2_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem1_0 : DmaSem sig := 13
abbrev cc3_sem2_0 : DmaSem sig := 14
abbrev cc3_sem3_0 : DmaSem sig := 15
abbrev cc4_sem0_0 : DmaSem sig := 16
abbrev cc4_sem0_1 : DmaSem sig := 17
abbrev cc4_sem1_0 : DmaSem sig := 18
abbrev cc4_sem2_0 : DmaSem sig := 19
abbrev cc4_sem3_0 : DmaSem sig := 20
abbrev cc4_sem3_1 : DmaSem sig := 21
abbrev cc5_sem0_0 : DmaSem sig := 22
abbrev cc5_sem0_1 : DmaSem sig := 23
abbrev cc5_sem1_0 : DmaSem sig := 24
abbrev cc5_sem2_0 : DmaSem sig := 25
abbrev cc5_sem2_1 : DmaSem sig := 26

abbrev nD : Nat := 1
abbrev τ : Topo := Topo.v7x

variable {F : FTy → Type} [FloatOps F]

abbrev grid0 : Pipeline.Grid := .none

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S16x64x30 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x64x2x30 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

abbrev stage2_0 : Fin 1 → Memref sig .tc .vmem S16x32x120 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x32x2x120 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S16x16x480 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S16x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S16x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S16x16x4x480 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x16x1920 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S3x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x3x1920 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage5_0 : Fin 2 → Memref sig .tc .vmem S1x3x1920 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1920 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x1x128x128x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== KernelIdeal.lean ====
variable {F : FTy → Type} [FloatOps F] [Named F]
def κ : String → Option EReal := fun
  | "w1" => some ((1 / 27 : ℝ) : EReal)
  | "w3" => some ((1 / 9 : ℝ) : EReal)
  | "w6" => some ((2 / 9 : ℝ) : EReal)
  | "w7" => some ((7 / 27 : ℝ) : EReal)
  | _ => none
-- ==== ReferenceIdeal.lean ====
abbrev S16x2048 : Shape := ⟨2, ![16, 2048]⟩
abbrev S1x1x16x120 : Shape := ⟨4, ![1, 1, 16, 120]⟩
abbrev S240x256 : Shape := ⟨2, ![240, 256]⟩
abbrev S240 : Shape := ⟨1, ![240]⟩
abbrev S64x2 : Shape := ⟨2, ![64, 2]⟩
abbrev S128 : Shape := ⟨1, ![128]⟩
abbrev S32x2 : Shape := ⟨2, ![32, 2]⟩
abbrev S64 : Shape := ⟨1, ![64]⟩
abbrev S16x4 : Shape := ⟨2, ![16, 4]⟩
abbrev S3x16 : Shape := ⟨2, ![3, 16]⟩
abbrev S3 : Shape := ⟨1, ![3]⟩
abbrev S16x256x8 : Shape := ⟨3, ![16, 256, 8]⟩
abbrev S240x16x8 : Shape := ⟨3, ![240, 16, 8]⟩
abbrev S16x240x8 : Shape := ⟨3, ![16, 240, 8]⟩
abbrev S1x240x1 : Shape := ⟨3, ![1, 240, 1]⟩
abbrev S16x64x30 : Shape := ⟨3, ![16, 64, 30]⟩
abbrev S_ : Shape := ⟨0, ![]⟩
abbrev S16x64 : Shape := ⟨2, ![16, 64]⟩
abbrev S16x64x1 : Shape := ⟨3, ![16, 64, 1]⟩
abbrev S16x64x1x30 : Shape := ⟨4, ![16, 64, 1, 30]⟩
abbrev S1x64x2x1 : Shape := ⟨4, ![1, 64, 2, 1]⟩
abbrev S16x64x2x30 : Shape := ⟨4, ![16, 64, 2, 30]⟩
abbrev S16x32x120 : Shape := ⟨3, ![16, 32, 120]⟩
abbrev S16x32 : Shape := ⟨2, ![16, 32]⟩
abbrev S16x32x1 : Shape := ⟨3, ![16, 32, 1]⟩
abbrev S16x32x1x120 : Shape := ⟨4, ![16, 32, 1, 120]⟩
abbrev S1x32x2x1 : Shape := ⟨4, ![1, 32, 2, 1]⟩
abbrev S16x32x2x120 : Shape := ⟨4, ![16, 32, 2, 120]⟩
abbrev S16x16x480 : Shape := ⟨3, ![16, 16, 480]⟩
abbrev S16x16 : Shape := ⟨2, ![16, 16]⟩
abbrev S16x16x1 : Shape := ⟨3, ![16, 16, 1]⟩
abbrev S16x16x1x480 : Shape := ⟨4, ![16, 16, 1, 480]⟩
abbrev S1x16x4x1 : Shape := ⟨4, ![1, 16, 4, 1]⟩
abbrev S16x16x4x480 : Shape := ⟨4, ![16, 16, 4, 480]⟩
abbrev S16x16x1920 : Shape := ⟨3, ![16, 16, 1920]⟩
abbrev S3x16x1920 : Shape := ⟨3, ![3, 16, 1920]⟩
abbrev S16x3x1920 : Shape := ⟨3, ![16, 3, 1920]⟩
abbrev S1x3x1 : Shape := ⟨3, ![1, 3, 1]⟩
abbrev S16x1920x3 : Shape := ⟨3, ![16, 1920, 3]⟩
abbrev S16x1920x3x2 : Shape := ⟨4, ![16, 1920, 3, 2]⟩
abbrev S16x1920x3x1 : Shape := ⟨4, ![16, 1920, 3, 1]⟩
abbrev S16x1920x1x2 : Shape := ⟨4, ![16, 1920, 1, 2]⟩
abbrev S16x1920x2 : Shape := ⟨3, ![16, 1920, 2]⟩
abbrev S16x1920x1x1x2 : Shape := ⟨5, ![16, 1920, 1, 1, 2]⟩
abbrev S16x1920x1x2x1 : Shape := ⟨5, ![16, 1920, 1, 2, 1]⟩
abbrev S16x1920x2x1x1 : Shape := ⟨5, ![16, 1920, 2, 1, 1]⟩
abbrev S16x1920x2x2x2 : Shape := ⟨5, ![16, 1920, 2, 2, 2]⟩
abbrev S16x1920x1x2x2 : Shape := ⟨5, ![16, 1920, 1, 2, 2]⟩
abbrev S1x1920 : Shape := ⟨2, ![1, 1920]⟩
abbrev S16x1920 : Shape := ⟨2, ![16, 1920]⟩
abbrev S16x1920x1x1x1 : Shape := ⟨5, ![16, 1920, 1, 1, 1]⟩
abbrev S33554432 : Shape := ⟨1, ![33554432]⟩
abbrev S245760 : Shape := ⟨1, ![245760]⟩
abbrev S245760x1 : Shape := ⟨2, ![245760, 1]⟩
abbrev S16x1x128x128x128 : Shape := ⟨5, ![16, 1, 128, 128, 128]⟩
abbrev S16x1x130x128x128 : Shape := ⟨5, ![16, 1, 130, 128, 128]⟩
abbrev S16x1x128x130x128 : Shape := ⟨5, ![16, 1, 128, 130, 128]⟩
abbrev S16x1x128x128x130 : Shape := ⟨5, ![16, 1, 128, 128, 130]⟩

abbrev nBuf : Space → Nat
  | .hbm => 573
  | .vmem => 0
  | .smem => 0
  | _ => 0

abbrev hbmTy0_0 (i : Nat) : BufTy := match i % 128 with
  | 0 => ⟨S16x2048, .f32⟩
  | 1 => ⟨S1x1x16x120, .f32⟩
  | 2 => ⟨S240x256, .f32⟩
  | 3 => ⟨S240, .f32⟩
  | 4 => ⟨S64x2, .f32⟩
  | 5 => ⟨S128, .f32⟩
  | 6 => ⟨S32x2, .f32⟩
  | 7 => ⟨S64, .f32⟩
  | 8 => ⟨S16x4, .f32⟩
  | 9 => ⟨S64, .f32⟩
  | 10 => ⟨S3x16, .f32⟩
  | 11 => ⟨S3, .f32⟩
  | 12 => ⟨S16x256x8, .f32⟩
  | 13 => ⟨S240x16x8, .f32⟩
  | 14 => ⟨S16x240x8, .f32⟩
  | 15 => ⟨S1x240x1, .f32⟩
  | 16 => ⟨S16x240x8, .f32⟩
  | 17 => ⟨S16x240x8, .f32⟩
  | 18 => ⟨S16x64x30, .f32⟩
  | 19 => ⟨S_, .f32⟩
  | 20 => ⟨S16x64, .f32⟩
  | 21 => ⟨S16x64x1, .f32⟩
  | 22 => ⟨S_, .f32⟩
  | 23 => ⟨S16x64x1, .f32⟩
  | 24 => ⟨S16x64x1, .f32⟩
  | 25 => ⟨S_, .i32⟩
  | 26 => ⟨S_, .f32⟩
  | 27 => ⟨S16x64, .f32⟩
  | 28 => ⟨S16x64x1, .f32⟩
  | 29 => ⟨S_, .f32⟩
  | 30 => ⟨S16x64x1, .f32⟩
  | 31 => ⟨S16x64x1, .f32⟩
  | 32 => ⟨S16x64x30, .f32⟩
  | 33 => ⟨S16x64x30, .f32⟩
  | 34 => ⟨S16x64x30, .f32⟩
  | 35 => ⟨S_, .f32⟩
  | 36 => ⟨S_, .f32⟩
  | 37 => ⟨S_, .f32⟩
  | 38 => ⟨S_, .f32⟩
  | 39 => ⟨S16x64, .f32⟩
  | 40 => ⟨S16x64x1, .f32⟩
  | 41 => ⟨S16x64x1, .f32⟩
  | 42 => ⟨S16x64x1, .f32⟩
  | 43 => ⟨S_, .f32⟩
  | 44 => ⟨S_, .i1⟩
  | 45 => ⟨S_, .f32⟩
  | 46 => ⟨S_, .f32⟩
  | 47 => ⟨S16x64x1, .f32⟩
  | 48 => ⟨S16x64x1, .f32⟩
  | 49 => ⟨S16x64x30, .f32⟩
  | 50 => ⟨S16x64x30, .f32⟩
  | 51 => ⟨S_, .f32⟩
  | 52 => ⟨S16x64x1, .f32⟩
  | 53 => ⟨S16x64x1, .f32⟩
  | 54 => ⟨S16x64x1, .f32⟩
  | 55 => ⟨S16x64x30, .f32⟩
  | 56 => ⟨S16x64x30, .f32⟩
  | 57 => ⟨S_, .f32⟩
  | 58 => ⟨S16x64x30, .f32⟩
  | 59 => ⟨S16x64x30, .f32⟩
  | 60 => ⟨S16x64x1x30, .f32⟩
  | 61 => ⟨S1x64x2x1, .f32⟩
  | 62 => ⟨S16x64x2x30, .f32⟩
  | 63 => ⟨S16x64x2x30, .f32⟩
  | 64 => ⟨S16x64x2x30, .f32⟩
  | 65 => ⟨S1x64x2x1, .f32⟩
  | 66 => ⟨S16x64x2x30, .f32⟩
  | 67 => ⟨S16x64x2x30, .f32⟩
  | 68 => ⟨S16x32x120, .f32⟩
  | 69 => ⟨S_, .f32⟩
  | 70 => ⟨S16x32, .f32⟩
  | 71 => ⟨S16x32x1, .f32⟩
  | 72 => ⟨S_, .f32⟩
  | 73 => ⟨S16x32x1, .f32⟩
  | 74 => ⟨S16x32x1, .f32⟩
  | 75 => ⟨S_, .i32⟩
  | 76 => ⟨S_, .f32⟩
  | 77 => ⟨S16x32, .f32⟩
  | 78 => ⟨S16x32x1, .f32⟩
  | 79 => ⟨S_, .f32⟩
  | 80 => ⟨S16x32x1, .f32⟩
  | 81 => ⟨S16x32x1, .f32⟩
  | 82 => ⟨S16x32x120, .f32⟩
  | 83 => ⟨S16x32x120, .f32⟩
  | 84 => ⟨S16x32x120, .f32⟩
  | 85 => ⟨S_, .f32⟩
  | 86 => ⟨S_, .f32⟩
  | 87 => ⟨S_, .f32⟩
  | 88 => ⟨S_, .f32⟩
  | 89 => ⟨S16x32, .f32⟩
  | 90 => ⟨S16x32x1, .f32⟩
  | 91 => ⟨S16x32x1, .f32⟩
  | 92 => ⟨S16x32x1, .f32⟩
  | 93 => ⟨S_, .f32⟩
  | 94 => ⟨S_, .i1⟩
  | 95 => ⟨S_, .f32⟩
  | 96 => ⟨S_, .f32⟩
  | 97 => ⟨S16x32x1, .f32⟩
  | 98 => ⟨S16x32x1, .f32⟩
  | 99 => ⟨S16x32x120, .f32⟩
  | 100 => ⟨S16x32x120, .f32⟩
  | 101 => ⟨S_, .f32⟩
  | 102 => ⟨S16x32x1, .f32⟩
  | 103 => ⟨S16x32x1, .f32⟩
  | 104 => ⟨S16x32x1, .f32⟩
  | 105 => ⟨S16x32x120, .f32⟩
  | 106 => ⟨S16x32x120, .f32⟩
  | 107 => ⟨S_, .f32⟩
  | 108 => ⟨S16x32x120, .f32⟩
  | 109 => ⟨S16x32x120, .f32⟩
  | 110 => ⟨S16x32x1x120, .f32⟩
  | 111 => ⟨S1x32x2x1, .f32⟩
  | 112 => ⟨S16x32x2x120, .f32⟩
  | 113 => ⟨S16x32x2x120, .f32⟩
  | 114 => ⟨S16x32x2x120, .f32⟩
  | 115 => ⟨S1x32x2x1, .f32⟩
  | 116 => ⟨S16x32x2x120, .f32⟩
  | 117 => ⟨S16x32x2x120, .f32⟩
  | 118 => ⟨S16x16x480, .f32⟩
  | 119 => ⟨S_, .f32⟩
  | 120 => ⟨S16x16, .f32⟩
  | 121 => ⟨S16x16x1, .f32⟩
  | 122 => ⟨S_, .f32⟩
  | 123 => ⟨S16x16x1, .f32⟩
  | 124 => ⟨S16x16x1, .f32⟩
  | 125 => ⟨S_, .i32⟩
  | 126 => ⟨S_, .f32⟩
  | 127 => ⟨S16x16, .f32⟩
  | _ => ⟨S16x2048, .f32⟩

abbrev hbmTy0_1 (i : Nat) : BufTy := match i % 128 with
  | 0 => ⟨S16x16x1, .f32⟩
  | 1 => ⟨S_, .f32⟩
  | 2 => ⟨S16x16x1, .f32⟩
  | 3 => ⟨S16x16x1, .f32⟩
  | 4 => ⟨S16x16x480, .f32⟩
  | 5 => ⟨S16x16x480, .f32⟩
  | 6 => ⟨S16x16x480, .f32⟩
  | 7 => ⟨S_, .f32⟩
  | 8 => ⟨S_, .f32⟩
  | 9 => ⟨S_, .f32⟩
  | 10 => ⟨S_, .f32⟩
  | 11 => ⟨S16x16, .f32⟩
  | 12 => ⟨S16x16x1, .f32⟩
  | 13 => ⟨S16x16x1, .f32⟩
  | 14 => ⟨S16x16x1, .f32⟩
  | 15 => ⟨S_, .f32⟩
  | 16 => ⟨S_, .i1⟩
  | 17 => ⟨S_, .f32⟩
  | 18 => ⟨S_, .f32⟩
  | 19 => ⟨S16x16x1, .f32⟩
  | 20 => ⟨S16x16x1, .f32⟩
  | 21 => ⟨S16x16x480, .f32⟩
  | 22 => ⟨S16x16x480, .f32⟩
  | 23 => ⟨S_, .f32⟩
  | 24 => ⟨S16x16x1, .f32⟩
  | 25 => ⟨S16x16x1, .f32⟩
  | 26 => ⟨S16x16x1, .f32⟩
  | 27 => ⟨S16x16x480, .f32⟩
  | 28 => ⟨S16x16x480, .f32⟩
  | 29 => ⟨S_, .f32⟩
  | 30 => ⟨S16x16x480, .f32⟩
  | 31 => ⟨S16x16x480, .f32⟩
  | 32 => ⟨S16x16x1x480, .f32⟩
  | 33 => ⟨S1x16x4x1, .f32⟩
  | 34 => ⟨S16x16x4x480, .f32⟩
  | 35 => ⟨S16x16x4x480, .f32⟩
  | 36 => ⟨S16x16x4x480, .f32⟩
  | 37 => ⟨S1x16x4x1, .f32⟩
  | 38 => ⟨S16x16x4x480, .f32⟩
  | 39 => ⟨S16x16x4x480, .f32⟩
  | 40 => ⟨S16x16x1920, .f32⟩
  | 41 => ⟨S_, .f32⟩
  | 42 => ⟨S16x16, .f32⟩
  | 43 => ⟨S16x16x1, .f32⟩
  | 44 => ⟨S_, .f32⟩
  | 45 => ⟨S16x16x1, .f32⟩
  | 46 => ⟨S16x16x1, .f32⟩
  | 47 => ⟨S_, .i32⟩
  | 48 => ⟨S_, .f32⟩
  | 49 => ⟨S16x16, .f32⟩
  | 50 => ⟨S16x16x1, .f32⟩
  | 51 => ⟨S_, .f32⟩
  | 52 => ⟨S16x16x1, .f32⟩
  | 53 => ⟨S16x16x1, .f32⟩
  | 54 => ⟨S16x16x1920, .f32⟩
  | 55 => ⟨S16x16x1920, .f32⟩
  | 56 => ⟨S16x16x1920, .f32⟩
  | 57 => ⟨S_, .f32⟩
  | 58 => ⟨S_, .f32⟩
  | 59 => ⟨S_, .f32⟩
  | 60 => ⟨S_, .f32⟩
  | 61 => ⟨S16x16, .f32⟩
  | 62 => ⟨S16x16x1, .f32⟩
  | 63 => ⟨S16x16x1, .f32⟩
  | 64 => ⟨S16x16x1, .f32⟩
  | 65 => ⟨S_, .f32⟩
  | 66 => ⟨S_, .i1⟩
  | 67 => ⟨S_, .f32⟩
  | 68 => ⟨S_, .f32⟩
  | 69 => ⟨S16x16x1, .f32⟩
  | 70 => ⟨S16x16x1, .f32⟩
  | 71 => ⟨S16x16x1920, .f32⟩
  | 72 => ⟨S16x16x1920, .f32⟩
  | 73 => ⟨S_, .f32⟩
  | 74 => ⟨S16x16x1, .f32⟩
  | 75 => ⟨S16x16x1, .f32⟩
  | 76 => ⟨S16x16x1, .f32⟩
  | 77 => ⟨S16x16x1920, .f32⟩
  | 78 => ⟨S16x16x1920, .f32⟩
  | 79 => ⟨S_, .f32⟩
  | 80 => ⟨S16x16x1920, .f32⟩
  | 81 => ⟨S16x16x1920, .f32⟩
  | 82 => ⟨S3x16x1920, .f32⟩
  | 83 => ⟨S16x3x1920, .f32⟩
  | 84 => ⟨S1x3x1, .f32⟩
  | 85 => ⟨S16x3x1920, .f32⟩
  | 86 => ⟨S16x3x1920, .f32⟩
  | 87 => ⟨S16x3x1920, .f32⟩
  | 88 => ⟨S16x1920x3, .f32⟩
  | 89 => ⟨S_, .f32⟩
  | 90 => ⟨S16x1920x3, .f32⟩
  | 91 => ⟨S16x1920x3, .f32⟩
  | 92 => ⟨S_, .f32⟩
  | 93 => ⟨S16x1920x3, .f32⟩
  | 94 => ⟨S16x1920x3, .f32⟩
  | 95 => ⟨S_, .f32⟩
  | 96 => ⟨S16x1920x3, .f32⟩
  | 97 => ⟨S16x1920x3, .f32⟩
  | 98 => ⟨S_, .f32⟩
  | 99 => ⟨S16x1920x3, .f32⟩
  | 100 => ⟨S16x1920x3, .f32⟩
  | 101 => ⟨S16x1920x3, .f32⟩
  | 102 => ⟨S16x1920x3, .f32⟩
  | 103 => ⟨S16x1920x3x2, .i32⟩
  | 104 => ⟨S16x1920x3, .i32⟩
  | 105 => ⟨S16x1920x3x1, .i32⟩
  | 106 => ⟨S16x1920x3x2, .i32⟩
  | 107 => ⟨S16x1920x3x2, .i32⟩
  | 108 => ⟨S_, .i32⟩
  | 109 => ⟨S16x1920x3x2, .i32⟩
  | 110 => ⟨S16x1920x3x2, .i1⟩
  | 111 => ⟨S16x1920x3x1, .f32⟩
  | 112 => ⟨S16x1920x3x1, .f32⟩
  | 113 => ⟨S_, .f32⟩
  | 114 => ⟨S16x1920x3x1, .f32⟩
  | 115 => ⟨S16x1920x3x1, .f32⟩
  | 116 => ⟨S16x1920x3x2, .f32⟩
  | 117 => ⟨S16x1920x3x2, .f32⟩
  | 118 => ⟨S16x1920x3x2, .f32⟩
  | 119 => ⟨S_, .i32⟩
  | 120 => ⟨S16x1920x3x2, .i32⟩
  | 121 => ⟨S16x1920x3x2, .i1⟩
  | 122 => ⟨S_, .i32⟩
  | 123 => ⟨S16x1920x3x2, .i32⟩
  | 124 => ⟨S16x1920x3x2, .i1⟩
  | 125 => ⟨S16x1920x3x2, .i1⟩
  | 126 => ⟨S_, .i32⟩
  | 127 => ⟨S_, .i32⟩
  | _ => ⟨S16x2048, .f32⟩

abbrev hbmTy0_2 (i : Nat) : BufTy := match i % 128 with
  | 0 => ⟨S_, .i32⟩
  | 1 => ⟨S16x1920x3x2, .i32⟩
  | 2 => ⟨S16x1920x3x2, .i32⟩
  | 3 => ⟨S_, .i32⟩
  | 4 => ⟨S16x1920x3x2, .i32⟩
  | 5 => ⟨S16x1920x3x2, .i32⟩
  | 6 => ⟨S16x1920x1x2, .i32⟩
  | 7 => ⟨S16x1920x2, .i32⟩
  | 8 => ⟨S16x1920x1x2, .i32⟩
  | 9 => ⟨S16x1920x2, .i32⟩
  | 10 => ⟨S16x1920x1x2, .i32⟩
  | 11 => ⟨S16x1920x2, .i32⟩
  | 12 => ⟨S16x1920x1x1x2, .i32⟩
  | 13 => ⟨S16x1920x1x2x1, .i32⟩
  | 14 => ⟨S16x1920x2x1x1, .i32⟩
  | 15 => ⟨S16x1920x1x2, .f32⟩
  | 16 => ⟨S16x1920x2, .f32⟩
  | 17 => ⟨S16x1920x1x2, .f32⟩
  | 18 => ⟨S16x1920x2, .f32⟩
  | 19 => ⟨S16x1920x1x2, .f32⟩
  | 20 => ⟨S16x1920x2, .f32⟩
  | 21 => ⟨S16x1920x1x1x2, .f32⟩
  | 22 => ⟨S16x1920x1x2x1, .f32⟩
  | 23 => ⟨S16x1920x2x1x1, .f32⟩
  | 24 => ⟨S16x1920x1x2, .i1⟩
  | 25 => ⟨S16x1920x2, .i1⟩
  | 26 => ⟨S16x1920x1x2, .i1⟩
  | 27 => ⟨S16x1920x2, .i1⟩
  | 28 => ⟨S16x1920x1x2, .i1⟩
  | 29 => ⟨S16x1920x2, .i1⟩
  | 30 => ⟨S16x1920x1x1x2, .i1⟩
  | 31 => ⟨S16x1920x1x2x1, .i1⟩
  | 32 => ⟨S16x1920x2x1x1, .i1⟩
  | 33 => ⟨S16x1920x2x2x2, .i32⟩
  | 34 => ⟨S_, .i32⟩
  | 35 => ⟨S16x1920x2x2x2, .i32⟩
  | 36 => ⟨S16x1920x2x2x2, .i32⟩
  | 37 => ⟨S16x1920x2x2x2, .i32⟩
  | 38 => ⟨S16x1920x2x2x2, .i32⟩
  | 39 => ⟨S_, .i32⟩
  | 40 => ⟨S16x1920x2x2x2, .i32⟩
  | 41 => ⟨S16x1920x2x2x2, .i32⟩
  | 42 => ⟨S16x1920x2x2x2, .i32⟩
  | 43 => ⟨S16x1920x2x2x2, .i32⟩
  | 44 => ⟨S_, .i32⟩
  | 45 => ⟨S16x1920x2x2x2, .i32⟩
  | 46 => ⟨S16x1920x2x2x2, .i32⟩
  | 47 => ⟨S16x1920x2x2x2, .i32⟩
  | 48 => ⟨S16x1920x2x2x2, .i32⟩
  | 49 => ⟨S16x1920x1x2x2, .f32⟩
  | 50 => ⟨S16x1920x1x2x2, .f32⟩
  | 51 => ⟨S16x1920x1x2x2, .f32⟩
  | 52 => ⟨S16x1920x2x2x2, .f32⟩
  | 53 => ⟨S16x1920x2x2x2, .f32⟩
  | 54 => ⟨S16x1920x2x2x2, .f32⟩
  | 55 => ⟨S16x1920x1x2x2, .i1⟩
  | 56 => ⟨S16x1920x1x2x2, .i1⟩
  | 57 => ⟨S16x1920x1x2x2, .i1⟩
  | 58 => ⟨S16x1920x2x2x2, .i1⟩
  | 59 => ⟨S16x1920x2x2x2, .i1⟩
  | 60 => ⟨S16x1920x2x2x2, .i1⟩
  | 61 => ⟨S1x1x16x120, .f32⟩
  | 62 => ⟨S1x1x16x120, .f32⟩
  | 63 => ⟨S_, .f32⟩
  | 64 => ⟨S1x1x16x120, .f32⟩
  | 65 => ⟨S1x1x16x120, .f32⟩
  | 66 => ⟨S_, .f32⟩
  | 67 => ⟨S1x1x16x120, .f32⟩
  | 68 => ⟨S1x1x16x120, .f32⟩
  | 69 => ⟨S1x1920, .f32⟩
  | 70 => ⟨S16x1920, .f32⟩
  | 71 => ⟨S16x1920x1x1x1, .f32⟩
  | 72 => ⟨S16x1920x2x2x2, .f32⟩
  | 73 => ⟨S16x1920x2x2x2, .f32⟩
  | 74 => ⟨S_, .f32⟩
  | 75 => ⟨S_, .f32⟩
  | 76 => ⟨S16x1920x2x2x2, .f32⟩
  | 77 => ⟨S16x1920x2x2x2, .f32⟩
  | 78 => ⟨S_, .f32⟩
  | 79 => ⟨S33554432, .f32⟩
  | 80 => ⟨S245760, .i32⟩
  | 81 => ⟨S245760, .f32⟩
  | 82 => ⟨S_, .i32⟩
  | 83 => ⟨S245760, .i32⟩
  | 84 => ⟨S245760, .i1⟩
  | 85 => ⟨S_, .i32⟩
  | 86 => ⟨S245760, .i32⟩
  | 87 => ⟨S245760, .i32⟩
  | 88 => ⟨S245760, .i32⟩
  | 89 => ⟨S245760x1, .i32⟩
  | 90 => ⟨S33554432, .f32⟩
  | 91 => ⟨S16x1x128x128x128, .f32⟩
  | 92 => ⟨S_, .f32⟩
  | 93 => ⟨S16x1920, .f32⟩
  | 94 => ⟨S16x1920x1x1x1, .f32⟩
  | 95 => ⟨S16x1920x2x2x2, .f32⟩
  | 96 => ⟨S16x1920x2x2x2, .f32⟩
  | 97 => ⟨S_, .f32⟩
  | 98 => ⟨S_, .f32⟩
  | 99 => ⟨S16x1920x2x2x2, .f32⟩
  | 100 => ⟨S16x1920x2x2x2, .f32⟩
  | 101 => ⟨S_, .f32⟩
  | 102 => ⟨S33554432, .f32⟩
  | 103 => ⟨S245760, .i32⟩
  | 104 => ⟨S245760, .f32⟩
  | 105 => ⟨S_, .i32⟩
  | 106 => ⟨S245760, .i32⟩
  | 107 => ⟨S245760, .i1⟩
  | 108 => ⟨S_, .i32⟩
  | 109 => ⟨S245760, .i32⟩
  | 110 => ⟨S245760, .i32⟩
  | 111 => ⟨S245760, .i32⟩
  | 112 => ⟨S245760x1, .i32⟩
  | 113 => ⟨S33554432, .f32⟩
  | 114 => ⟨S16x1x128x128x128, .f32⟩
  | 115 => ⟨S_, .i32⟩
  | 116 => ⟨S_, .f32⟩
  | 117 => ⟨S16x1x130x128x128, .f32⟩
  | 118 => ⟨S16x1x128x128x128, .f32⟩
  | 119 => ⟨S16x1x128x128x128, .f32⟩
  | 120 => ⟨S16x1x128x128x128, .f32⟩
  | 121 => ⟨S16x1x128x128x128, .f32⟩
  | 122 => ⟨S16x1x128x128x128, .f32⟩
  | 123 => ⟨S_, .f32⟩
  | 124 => ⟨S16x1x128x128x128, .f32⟩
  | 125 => ⟨S16x1x128x128x128, .f32⟩
  | 126 => ⟨S_, .i32⟩
  | 127 => ⟨S_, .f32⟩
  | _ => ⟨S16x2048, .f32⟩

abbrev hbmTy0_3 (i : Nat) : BufTy := match i % 128 with
  | 0 => ⟨S16x1x128x130x128, .f32⟩
  | 1 => ⟨S16x1x128x128x128, .f32⟩
  | 2 => ⟨S16x1x128x128x128, .f32⟩
  | 3 => ⟨S16x1x128x128x128, .f32⟩
  | 4 => ⟨S16x1x128x128x128, .f32⟩
  | 5 => ⟨S16x1x128x128x128, .f32⟩
  | 6 => ⟨S_, .f32⟩
  | 7 => ⟨S16x1x128x128x128, .f32⟩
  | 8 => ⟨S16x1x128x128x128, .f32⟩
  | 9 => ⟨S_, .i32⟩
  | 10 => ⟨S_, .f32⟩
  | 11 => ⟨S16x1x128x128x130, .f32⟩
  | 12 => ⟨S16x1x128x128x128, .f32⟩
  | 13 => ⟨S16x1x128x128x128, .f32⟩
  | 14 => ⟨S16x1x128x128x128, .f32⟩
  | 15 => ⟨S16x1x128x128x128, .f32⟩
  | 16 => ⟨S16x1x128x128x128, .f32⟩
  | 17 => ⟨S_, .f32⟩
  | 18 => ⟨S16x1x128x128x128, .f32⟩
  | 19 => ⟨S16x1x128x128x128, .f32⟩
  | 20 => ⟨S_, .i32⟩
  | 21 => ⟨S_, .f32⟩
  | 22 => ⟨S16x1x130x128x128, .f32⟩
  | 23 => ⟨S16x1x128x128x128, .f32⟩
  | 24 => ⟨S16x1x128x128x128, .f32⟩
  | 25 => ⟨S16x1x128x128x128, .f32⟩
  | 26 => ⟨S16x1x128x128x128, .f32⟩
  | 27 => ⟨S16x1x128x128x128, .f32⟩
  | 28 => ⟨S_, .f32⟩
  | 29 => ⟨S16x1x128x128x128, .f32⟩
  | 30 => ⟨S16x1x128x128x128, .f32⟩
  | 31 => ⟨S_, .i32⟩
  | 32 => ⟨S_, .f32⟩
  | 33 => ⟨S16x1x128x130x128, .f32⟩
  | 34 => ⟨S16x1x128x128x128, .f32⟩
  | 35 => ⟨S16x1x128x128x128, .f32⟩
  | 36 => ⟨S16x1x128x128x128, .f32⟩
  | 37 => ⟨S16x1x128x128x128, .f32⟩
  | 38 => ⟨S16x1x128x128x128, .f32⟩
  | 39 => ⟨S_, .f32⟩
  | 40 => ⟨S16x1x128x128x128, .f32⟩
  | 41 => ⟨S16x1x128x128x128, .f32⟩
  | 42 => ⟨S_, .i32⟩
  | 43 => ⟨S_, .f32⟩
  | 44 => ⟨S16x1x128x128x130, .f32⟩
  | 45 => ⟨S16x1x128x128x128, .f32⟩
  | 46 => ⟨S16x1x128x128x128, .f32⟩
  | 47 => ⟨S16x1x128x128x128, .f32⟩
  | 48 => ⟨S16x1x128x128x128, .f32⟩
  | 49 => ⟨S16x1x128x128x128, .f32⟩
  | 50 => ⟨S_, .f32⟩
  | 51 => ⟨S16x1x128x128x128, .f32⟩
  | 52 => ⟨S16x1x128x128x128, .f32⟩
  | 53 => ⟨S_, .i32⟩
  | 54 => ⟨S_, .f32⟩
  | 55 => ⟨S16x1x130x128x128, .f32⟩
  | 56 => ⟨S16x1x128x128x128, .f32⟩
  | 57 => ⟨S16x1x128x128x128, .f32⟩
  | 58 => ⟨S16x1x128x128x128, .f32⟩
  | 59 => ⟨S16x1x128x128x128, .f32⟩
  | 60 => ⟨S16x1x128x128x128, .f32⟩
  | 61 => ⟨S_, .f32⟩
  | 62 => ⟨S16x1x128x128x128, .f32⟩
  | 63 => ⟨S16x1x128x128x128, .f32⟩
  | 64 => ⟨S_, .i32⟩
  | 65 => ⟨S_, .f32⟩
  | 66 => ⟨S16x1x128x130x128, .f32⟩
  | 67 => ⟨S16x1x128x128x128, .f32⟩
  | 68 => ⟨S16x1x128x128x128, .f32⟩
  | 69 => ⟨S16x1x128x128x128, .f32⟩
  | 70 => ⟨S16x1x128x128x128, .f32⟩
  | 71 => ⟨S16x1x128x128x128, .f32⟩
  | 72 => ⟨S_, .f32⟩
  | 73 => ⟨S16x1x128x128x128, .f32⟩
  | 74 => ⟨S16x1x128x128x128, .f32⟩
  | 75 => ⟨S_, .i32⟩
  | 76 => ⟨S_, .f32⟩
  | 77 => ⟨S16x1x128x128x130, .f32⟩
  | 78 => ⟨S16x1x128x128x128, .f32⟩
  | 79 => ⟨S16x1x128x128x128, .f32⟩
  | 80 => ⟨S16x1x128x128x128, .f32⟩
  | 81 => ⟨S16x1x128x128x128, .f32⟩
  | 82 => ⟨S16x1x128x128x128, .f32⟩
  | 83 => ⟨S_, .f32⟩
  | 84 => ⟨S16x1x128x128x128, .f32⟩
  | 85 => ⟨S16x1x128x128x128, .f32⟩
  | 86 => ⟨S_, .i32⟩
  | 87 => ⟨S_, .f32⟩
  | 88 => ⟨S16x1x130x128x128, .f32⟩
  | 89 => ⟨S16x1x128x128x128, .f32⟩
  | 90 => ⟨S16x1x128x128x128, .f32⟩
  | 91 => ⟨S16x1x128x128x128, .f32⟩
  | 92 => ⟨S16x1x128x128x128, .f32⟩
  | 93 => ⟨S16x1x128x128x128, .f32⟩
  | 94 => ⟨S_, .f32⟩
  | 95 => ⟨S16x1x128x128x128, .f32⟩
  | 96 => ⟨S16x1x128x128x128, .f32⟩
  | 97 => ⟨S_, .i32⟩
  | 98 => ⟨S_, .f32⟩
  | 99 => ⟨S16x1x128x130x128, .f32⟩
  | 100 => ⟨S16x1x128x128x128, .f32⟩
  | 101 => ⟨S16x1x128x128x128, .f32⟩
  | 102 => ⟨S16x1x128x128x128, .f32⟩
  | 103 => ⟨S16x1x128x128x128, .f32⟩
  | 104 => ⟨S16x1x128x128x128, .f32⟩
  | 105 => ⟨S_, .f32⟩
  | 106 => ⟨S16x1x128x128x128, .f32⟩
  | 107 => ⟨S16x1x128x128x128, .f32⟩
  | 108 => ⟨S_, .i32⟩
  | 109 => ⟨S_, .f32⟩
  | 110 => ⟨S16x1x128x128x130, .f32⟩
  | 111 => ⟨S16x1x128x128x128, .f32⟩
  | 112 => ⟨S16x1x128x128x128, .f32⟩
  | 113 => ⟨S16x1x128x128x128, .f32⟩
  | 114 => ⟨S16x1x128x128x128, .f32⟩
  | 115 => ⟨S16x1x128x128x128, .f32⟩
  | 116 => ⟨S_, .f32⟩
  | 117 => ⟨S16x1x128x128x128, .f32⟩
  | 118 => ⟨S16x1x128x128x128, .f32⟩
  | 119 => ⟨S_, .i32⟩
  | 120 => ⟨S_, .f32⟩
  | 121 => ⟨S16x1x130x128x128, .f32⟩
  | 122 => ⟨S16x1x128x128x128, .f32⟩
  | 123 => ⟨S16x1x128x128x128, .f32⟩
  | 124 => ⟨S16x1x128x128x128, .f32⟩
  | 125 => ⟨S16x1x128x128x128, .f32⟩
  | 126 => ⟨S16x1x128x128x128, .f32⟩
  | 127 => ⟨S_, .f32⟩
  | _ => ⟨S16x2048, .f32⟩

abbrev hbmTy0_4 (i : Nat) : BufTy := match i % 128 with
  | 0 => ⟨S16x1x128x128x128, .f32⟩
  | 1 => ⟨S16x1x128x128x128, .f32⟩
  | 2 => ⟨S_, .i32⟩
  | 3 => ⟨S_, .f32⟩
  | 4 => ⟨S16x1x128x130x128, .f32⟩
  | 5 => ⟨S16x1x128x128x128, .f32⟩
  | 6 => ⟨S16x1x128x128x128, .f32⟩
  | 7 => ⟨S16x1x128x128x128, .f32⟩
  | 8 => ⟨S16x1x128x128x128, .f32⟩
  | 9 => ⟨S16x1x128x128x128, .f32⟩
  | 10 => ⟨S_, .f32⟩
  | 11 => ⟨S16x1x128x128x128, .f32⟩
  | 12 => ⟨S16x1x128x128x128, .f32⟩
  | 13 => ⟨S_, .i32⟩
  | 14 => ⟨S_, .f32⟩
  | 15 => ⟨S16x1x128x128x130, .f32⟩
  | 16 => ⟨S16x1x128x128x128, .f32⟩
  | 17 => ⟨S16x1x128x128x128, .f32⟩
  | 18 => ⟨S16x1x128x128x128, .f32⟩
  | 19 => ⟨S16x1x128x128x128, .f32⟩
  | 20 => ⟨S16x1x128x128x128, .f32⟩
  | 21 => ⟨S_, .f32⟩
  | 22 => ⟨S16x1x128x128x128, .f32⟩
  | 23 => ⟨S16x1x128x128x128, .f32⟩
  | 24 => ⟨S_, .i32⟩
  | 25 => ⟨S_, .f32⟩
  | 26 => ⟨S16x1x130x128x128, .f32⟩
  | 27 => ⟨S16x1x128x128x128, .f32⟩
  | 28 => ⟨S16x1x128x128x128, .f32⟩
  | 29 => ⟨S16x1x128x128x128, .f32⟩
  | 30 => ⟨S16x1x128x128x128, .f32⟩
  | 31 => ⟨S16x1x128x128x128, .f32⟩
  | 32 => ⟨S_, .f32⟩
  | 33 => ⟨S16x1x128x128x128, .f32⟩
  | 34 => ⟨S16x1x128x128x128, .f32⟩
  | 35 => ⟨S_, .i32⟩
  | 36 => ⟨S_, .f32⟩
  | 37 => ⟨S16x1x128x130x128, .f32⟩
  | 38 => ⟨S16x1x128x128x128, .f32⟩
  | 39 => ⟨S16x1x128x128x128, .f32⟩
  | 40 => ⟨S16x1x128x128x128, .f32⟩
  | 41 => ⟨S16x1x128x128x128, .f32⟩
  | 42 => ⟨S16x1x128x128x128, .f32⟩
  | 43 => ⟨S_, .f32⟩
  | 44 => ⟨S16x1x128x128x128, .f32⟩
  | 45 => ⟨S16x1x128x128x128, .f32⟩
  | 46 => ⟨S_, .i32⟩
  | 47 => ⟨S_, .f32⟩
  | 48 => ⟨S16x1x128x128x130, .f32⟩
  | 49 => ⟨S16x1x128x128x128, .f32⟩
  | 50 => ⟨S16x1x128x128x128, .f32⟩
  | 51 => ⟨S16x1x128x128x128, .f32⟩
  | 52 => ⟨S16x1x128x128x128, .f32⟩
  | 53 => ⟨S16x1x128x128x128, .f32⟩
  | 54 => ⟨S_, .f32⟩
  | 55 => ⟨S16x1x128x128x128, .f32⟩
  | 56 => ⟨S16x1x128x128x128, .f32⟩
  | 57 => ⟨S_, .f32⟩
  | 58 => ⟨S16x1x128x128x128, .f32⟩
  | 59 => ⟨S16x1x128x128x128, .f32⟩
  | 60 => ⟨S16x1x128x128x128, .f32⟩
  | _ => ⟨S16x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x2048, .f32⟩

abbrev bufTy : (tb : Table) → Fin (tcTables nBuf tb) → BufTy
  | .hbm, ⟨i, _⟩ => hbmTy i
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call1_cst : Ref sig .tc := ⟨.hbm, 57, rfl⟩
abbrev main_call1_v0 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_2 : Ref sig .tc := ⟨.hbm, 69, rfl⟩
abbrev main_v29 : Ref sig .tc := ⟨.hbm, 70, rfl⟩
abbrev main_v30 : Ref sig .tc := ⟨.hbm, 71, rfl⟩
abbrev main_cst_3 : Ref sig .tc := ⟨.hbm, 72, rfl⟩
abbrev main_v31 : Ref sig .tc := ⟨.hbm, 73, rfl⟩
abbrev main_v32 : Ref sig .tc := ⟨.hbm, 74, rfl⟩
abbrev main_c_4 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_cst_3 : Ref sig .tc := ⟨.hbm, 93, rfl⟩
abbrev main_call2_v13 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_cst_5 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call3_cst : Ref sig .tc := ⟨.hbm, 107, rfl⟩
abbrev main_call3_v0 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_cst_6 : Ref sig .tc := ⟨.hbm, 119, rfl⟩
abbrev main_v51 : Ref sig .tc := ⟨.hbm, 120, rfl⟩
abbrev main_v52 : Ref sig .tc := ⟨.hbm, 121, rfl⟩
abbrev main_cst_7 : Ref sig .tc := ⟨.hbm, 122, rfl⟩
abbrev main_v53 : Ref sig .tc := ⟨.hbm, 123, rfl⟩
abbrev main_v54 : Ref sig .tc := ⟨.hbm, 124, rfl⟩
abbrev main_c_8 : Ref sig .tc := ⟨.hbm, 125, rfl⟩
abbrev main_call4_cst : Ref sig .tc := ⟨.hbm, 126, rfl⟩
abbrev main_call4_v0 : Ref sig .tc := ⟨.hbm, 127, rfl⟩
abbrev main_call4_v1 : Ref sig .tc := ⟨.hbm, 128, rfl⟩
abbrev main_call4_cst_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_v6 : Ref sig .tc := ⟨.hbm, 134, rfl⟩
abbrev main_call4_v7 : Ref sig .tc := ⟨.hbm, 135, rfl⟩
abbrev main_call4_cst_1 : Ref sig .tc := ⟨.hbm, 136, rfl⟩
abbrev main_call4_v8 : Ref sig .tc := ⟨.hbm, 137, rfl⟩
abbrev main_call4_cst_2 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_v12 : Ref sig .tc := ⟨.hbm, 142, rfl⟩
abbrev main_call4_cst_3 : Ref sig .tc := ⟨.hbm, 143, rfl⟩
abbrev main_call4_v13 : Ref sig .tc := ⟨.hbm, 144, rfl⟩
abbrev main_call4_cst_4 : Ref sig .tc := ⟨.hbm, 145, rfl⟩
abbrev main_call4_call0_v0 : Ref sig .tc := ⟨.hbm, 146, rfl⟩
abbrev main_call4_call0_v1 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_cst_9 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_call5_cst : Ref sig .tc := ⟨.hbm, 157, rfl⟩
abbrev main_call5_v0 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_cst_10 : Ref sig .tc := ⟨.hbm, 169, rfl⟩
abbrev main_v73 : Ref sig .tc := ⟨.hbm, 170, rfl⟩
abbrev main_v74 : Ref sig .tc := ⟨.hbm, 171, rfl⟩
abbrev main_cst_11 : Ref sig .tc := ⟨.hbm, 172, rfl⟩
abbrev main_v75 : Ref sig .tc := ⟨.hbm, 173, rfl⟩
abbrev main_v76 : Ref sig .tc := ⟨.hbm, 174, rfl⟩
abbrev main_c_12 : Ref sig .tc := ⟨.hbm, 175, rfl⟩
abbrev main_call6_cst : Ref sig .tc := ⟨.hbm, 176, rfl⟩
abbrev main_call6_v0 : Ref sig .tc := ⟨.hbm, 177, rfl⟩
abbrev main_call6_v1 : Ref sig .tc := ⟨.hbm, 178, rfl⟩
abbrev main_call6_cst_0 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_v5 : Ref sig .tc := ⟨.hbm, 183, rfl⟩
abbrev main_call6_v6 : Ref sig .tc := ⟨.hbm, 184, rfl⟩
abbrev main_call6_v7 : Ref sig .tc := ⟨.hbm, 185, rfl⟩
abbrev main_call6_cst_1 : Ref sig .tc := ⟨.hbm, 186, rfl⟩
abbrev main_call6_v8 : Ref sig .tc := ⟨.hbm, 187, rfl⟩
abbrev main_call6_cst_2 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_v12 : Ref sig .tc := ⟨.hbm, 192, rfl⟩
abbrev main_call6_cst_3 : Ref sig .tc := ⟨.hbm, 193, rfl⟩
abbrev main_call6_v13 : Ref sig .tc := ⟨.hbm, 194, rfl⟩
abbrev main_call6_cst_4 : Ref sig .tc := ⟨.hbm, 195, rfl⟩
abbrev main_call6_call0_v0 : Ref sig .tc := ⟨.hbm, 196, rfl⟩
abbrev main_call6_call0_v1 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_cst_13 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_call7_cst : Ref sig .tc := ⟨.hbm, 207, rfl⟩
abbrev main_call7_v0 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_v92 : Ref sig .tc := ⟨.hbm, 216, rfl⟩
abbrev main_cst_14 : Ref sig .tc := ⟨.hbm, 217, rfl⟩
abbrev main_v93 : Ref sig .tc := ⟨.hbm, 218, rfl⟩
abbrev main_v94 : Ref sig .tc := ⟨.hbm, 219, rfl⟩
abbrev main_cst_15 : Ref sig .tc := ⟨.hbm, 220, rfl⟩
abbrev main_v95 : Ref sig .tc := ⟨.hbm, 221, rfl⟩
abbrev main_v96 : Ref sig .tc := ⟨.hbm, 222, rfl⟩
abbrev main_cst_16 : Ref sig .tc := ⟨.hbm, 223, rfl⟩
abbrev main_v97 : Ref sig .tc := ⟨.hbm, 224, rfl⟩
abbrev main_v98 : Ref sig .tc := ⟨.hbm, 225, rfl⟩
abbrev main_cst_17 : Ref sig .tc := ⟨.hbm, 226, rfl⟩
abbrev main_v99 : Ref sig .tc := ⟨.hbm, 227, rfl⟩
abbrev main_v100 : Ref sig .tc := ⟨.hbm, 228, rfl⟩
abbrev main_v101 : Ref sig .tc := ⟨.hbm, 229, rfl⟩
abbrev main_v102 : Ref sig .tc := ⟨.hbm, 230, rfl⟩
abbrev main_v103 : Ref sig .tc := ⟨.hbm, 231, rfl⟩
abbrev main_v104 : Ref sig .tc := ⟨.hbm, 232, rfl⟩
abbrev main_v105 : Ref sig .tc := ⟨.hbm, 233, rfl⟩
abbrev main_v106 : Ref sig .tc := ⟨.hbm, 234, rfl⟩
abbrev main_v107 : Ref sig .tc := ⟨.hbm, 235, rfl⟩
abbrev main_c_18 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_cst_19 : Ref sig .tc := ⟨.hbm, 241, rfl⟩
abbrev main_v112 : Ref sig .tc := ⟨.hbm, 242, rfl⟩
abbrev main_v113 : Ref sig .tc := ⟨.hbm, 243, rfl⟩
abbrev main_call8_v0 : Ref sig .tc := ⟨.hbm, 244, rfl⟩
abbrev main_call8_v1 : Ref sig .tc := ⟨.hbm, 245, rfl⟩
abbrev main_v114 : Ref sig .tc := ⟨.hbm, 246, rfl⟩
abbrev main_c_20 : Ref sig .tc := ⟨.hbm, 247, rfl⟩
abbrev main_v115 : Ref sig .tc := ⟨.hbm, 248, rfl⟩
abbrev main_v116 : Ref sig .tc := ⟨.hbm, 249, rfl⟩
abbrev main_c_21 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_c_22 : Ref sig .tc := ⟨.hbm, 254, rfl⟩
abbrev main_c_23 : Ref sig .tc := ⟨.hbm, 255, rfl⟩
abbrev main_call9_v0 : Ref sig .tc := ⟨.hbm, 256, rfl⟩
abbrev main_call9_v1 : Ref sig .tc := ⟨.hbm, 257, rfl⟩
abbrev main_call9_v2 : Ref sig .tc := ⟨.hbm, 258, rfl⟩
abbrev main_call9_v3 : Ref sig .tc := ⟨.hbm, 259, rfl⟩
abbrev main_call9_v4 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_v143 : Ref sig .tc := ⟨.hbm, 284, rfl⟩
abbrev main_v144 : Ref sig .tc := ⟨.hbm, 285, rfl⟩
abbrev main_v145 : Ref sig .tc := ⟨.hbm, 286, rfl⟩
abbrev main_v146 : Ref sig .tc := ⟨.hbm, 287, rfl⟩
abbrev main_v147 : Ref sig .tc := ⟨.hbm, 288, rfl⟩
abbrev main_v148 : Ref sig .tc := ⟨.hbm, 289, rfl⟩
abbrev main_c_24 : Ref sig .tc := ⟨.hbm, 290, rfl⟩
abbrev main_v149 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_c_25 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_c_26 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_cst_27 : Ref sig .tc := ⟨.hbm, 319, rfl⟩
abbrev main_v175 : Ref sig .tc := ⟨.hbm, 320, rfl⟩
abbrev main_v176 : Ref sig .tc := ⟨.hbm, 321, rfl⟩
abbrev main_cst_28 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_cst_29 : Ref sig .tc := ⟨.hbm, 330, rfl⟩
abbrev main_call10_v0 : Ref sig .tc := ⟨.hbm, 331, rfl⟩
abbrev main_call10_v1 : Ref sig .tc := ⟨.hbm, 332, rfl⟩
abbrev main_v184 : Ref sig .tc := ⟨.hbm, 333, rfl⟩
abbrev main_cst_30 : Ref sig .tc := ⟨.hbm, 334, rfl⟩
abbrev main_v185 : Ref sig .tc := ⟨.hbm, 335, rfl⟩
abbrev main_v186 : Ref sig .tc := ⟨.hbm, 336, rfl⟩
abbrev main_v187 : Ref sig .tc := ⟨.hbm, 337, rfl⟩
abbrev main_c_31 : Ref sig .tc := ⟨.hbm, 338, rfl⟩
abbrev main_v188 : Ref sig .tc := ⟨.hbm, 339, rfl⟩
abbrev main_v189 : Ref sig .tc := ⟨.hbm, 340, rfl⟩
abbrev main_c_32 : Ref sig .tc := ⟨.hbm, 341, rfl⟩
abbrev main_v190 : Ref sig .tc := ⟨.hbm, 342, rfl⟩
abbrev main_v191 : Ref sig .tc := ⟨.hbm, 343, rfl⟩
abbrev main_v192 : Ref sig .tc := ⟨.hbm, 344, rfl⟩
abbrev main_v193 : Ref sig .tc := ⟨.hbm, 345, rfl⟩
abbrev main_v194 : Ref sig .tc := ⟨.hbm, 346, rfl⟩
abbrev main_v195 : Ref sig .tc := ⟨.hbm, 347, rfl⟩
abbrev main_cst_33 : Ref sig .tc := ⟨.hbm, 348, rfl⟩
abbrev main_v196 : Ref sig .tc := ⟨.hbm, 349, rfl⟩
abbrev main_v197 : Ref sig .tc := ⟨.hbm, 350, rfl⟩
abbrev main_v198 : Ref sig .tc := ⟨.hbm, 351, rfl⟩
abbrev main_v199 : Ref sig .tc := ⟨.hbm, 352, rfl⟩
abbrev main_cst_34 : Ref sig .tc := ⟨.hbm, 353, rfl⟩
abbrev main_call11_v0 : Ref sig .tc := ⟨.hbm, 354, rfl⟩
abbrev main_call11_v1 : Ref sig .tc := ⟨.hbm, 355, rfl⟩
abbrev main_v200 : Ref sig .tc := ⟨.hbm, 356, rfl⟩
abbrev main_cst_35 : Ref sig .tc := ⟨.hbm, 357, rfl⟩
abbrev main_v201 : Ref sig .tc := ⟨.hbm, 358, rfl⟩
abbrev main_v202 : Ref sig .tc := ⟨.hbm, 359, rfl⟩
abbrev main_v203 : Ref sig .tc := ⟨.hbm, 360, rfl⟩
abbrev main_c_36 : Ref sig .tc := ⟨.hbm, 361, rfl⟩
abbrev main_v204 : Ref sig .tc := ⟨.hbm, 362, rfl⟩
abbrev main_v205 : Ref sig .tc := ⟨.hbm, 363, rfl⟩
abbrev main_c_37 : Ref sig .tc := ⟨.hbm, 364, rfl⟩
abbrev main_v206 : Ref sig .tc := ⟨.hbm, 365, rfl⟩
abbrev main_v207 : Ref sig .tc := ⟨.hbm, 366, rfl⟩
abbrev main_v208 : Ref sig .tc := ⟨.hbm, 367, rfl⟩
abbrev main_v209 : Ref sig .tc := ⟨.hbm, 368, rfl⟩
abbrev main_v210 : Ref sig .tc := ⟨.hbm, 369, rfl⟩
abbrev main_v211 : Ref sig .tc := ⟨.hbm, 370, rfl⟩
abbrev main_c_38 : Ref sig .tc := ⟨.hbm, 371, rfl⟩
abbrev main_call12_v0 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_v217 : Ref sig .tc := ⟨.hbm, 378, rfl⟩
abbrev main_cst_39 : Ref sig .tc := ⟨.hbm, 379, rfl⟩
abbrev main_v218 : Ref sig .tc := ⟨.hbm, 380, rfl⟩
abbrev main_v219 : Ref sig .tc := ⟨.hbm, 381, rfl⟩
abbrev main_c_40 : Ref sig .tc := ⟨.hbm, 382, rfl⟩
abbrev main_call13_v0 : Ref sig .tc := ⟨.hbm, 383, rfl⟩
abbrev main_v220 : Ref sig .tc := ⟨.hbm, 384, rfl⟩
abbrev main_v221 : Ref sig .tc := ⟨.hbm, 385, rfl⟩
abbrev main_v222 : Ref sig .tc := ⟨.hbm, 386, rfl⟩
abbrev main_v223 : Ref sig .tc := ⟨.hbm, 387, rfl⟩
abbrev main_v224 : Ref sig .tc := ⟨.hbm, 388, rfl⟩
abbrev main_v225 : Ref sig .tc := ⟨.hbm, 389, rfl⟩
abbrev main_cst_41 : Ref sig .tc := ⟨.hbm, 390, rfl⟩
abbrev main_v226 : Ref sig .tc := ⟨.hbm, 391, rfl⟩
abbrev main_v227 : Ref sig .tc := ⟨.hbm, 392, rfl⟩
abbrev main_c_42 : Ref sig .tc := ⟨.hbm, 393, rfl⟩
abbrev main_call14_v0 : Ref sig .tc := ⟨.hbm, 394, rfl⟩
abbrev main_v228 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_cst_43 : Ref sig .tc := ⟨.hbm, 401, rfl⟩
abbrev main_v234 : Ref sig .tc := ⟨.hbm, 402, rfl⟩
abbrev main_v235 : Ref sig .tc := ⟨.hbm, 403, rfl⟩
abbrev main_c_44 : Ref sig .tc := ⟨.hbm, 404, rfl⟩
abbrev main_call15_v0 : Ref sig .tc := ⟨.hbm, 405, rfl⟩
abbrev main_v236 : Ref sig .tc := ⟨.hbm, 406, rfl⟩
abbrev main_v237 : Ref sig .tc := ⟨.hbm, 407, rfl⟩
abbrev main_v238 : Ref sig .tc := ⟨.hbm, 408, rfl⟩
abbrev main_v239 : Ref sig .tc := ⟨.hbm, 409, rfl⟩
abbrev main_v240 : Ref sig .tc := ⟨.hbm, 410, rfl⟩
abbrev main_v241 : Ref sig .tc := ⟨.hbm, 411, rfl⟩
abbrev main_cst_45 : Ref sig .tc := ⟨.hbm, 412, rfl⟩
abbrev main_v242 : Ref sig .tc := ⟨.hbm, 413, rfl⟩
abbrev main_v243 : Ref sig .tc := ⟨.hbm, 414, rfl⟩
abbrev main_c_46 : Ref sig .tc := ⟨.hbm, 415, rfl⟩
abbrev main_call16_v0 : Ref sig .tc := ⟨.hbm, 416, rfl⟩
abbrev main_v244 : Ref sig .tc := ⟨.hbm, 417, rfl⟩
abbrev main_v245 : Ref sig .tc := ⟨.hbm, 418, rfl⟩
abbrev main_v246 : Ref sig .tc := ⟨.hbm, 419, rfl⟩
abbrev main_v247 : Ref sig .tc := ⟨.hbm, 420, rfl⟩
abbrev main_v248 : Ref sig .tc := ⟨.hbm, 421, rfl⟩
abbrev main_v249 : Ref sig .tc := ⟨.hbm, 422, rfl⟩
abbrev main_cst_47 : Ref sig .tc := ⟨.hbm, 423, rfl⟩
abbrev main_v250 : Ref sig .tc := ⟨.hbm, 424, rfl⟩
abbrev main_v251 : Ref sig .tc := ⟨.hbm, 425, rfl⟩
abbrev main_c_48 : Ref sig .tc := ⟨.hbm, 426, rfl⟩
abbrev main_call17_v0 : Ref sig .tc := ⟨.hbm, 427, rfl⟩
abbrev main_v252 : Ref sig .tc := ⟨.hbm, 428, rfl⟩
abbrev main_v253 : Ref sig .tc := ⟨.hbm, 429, rfl⟩
abbrev main_v254 : Ref sig .tc := ⟨.hbm, 430, rfl⟩
abbrev main_v255 : Ref sig .tc := ⟨.hbm, 431, rfl⟩
abbrev main_v256 : Ref sig .tc := ⟨.hbm, 432, rfl⟩
abbrev main_v257 : Ref sig .tc := ⟨.hbm, 433, rfl⟩
abbrev main_cst_49 : Ref sig .tc := ⟨.hbm, 434, rfl⟩
abbrev main_v258 : Ref sig .tc := ⟨.hbm, 435, rfl⟩
abbrev main_v259 : Ref sig .tc := ⟨.hbm, 436, rfl⟩
abbrev main_c_50 : Ref sig .tc := ⟨.hbm, 437, rfl⟩
abbrev main_call18_v0 : Ref sig .tc := ⟨.hbm, 438, rfl⟩
abbrev main_v260 : Ref sig .tc := ⟨.hbm, 439, rfl⟩
abbrev main_v261 : Ref sig .tc := ⟨.hbm, 440, rfl⟩
abbrev main_v262 : Ref sig .tc := ⟨.hbm, 441, rfl⟩
abbrev main_v263 : Ref sig .tc := ⟨.hbm, 442, rfl⟩
abbrev main_v264 : Ref sig .tc := ⟨.hbm, 443, rfl⟩
abbrev main_v265 : Ref sig .tc := ⟨.hbm, 444, rfl⟩
abbrev main_cst_51 : Ref sig .tc := ⟨.hbm, 445, rfl⟩
abbrev main_v266 : Ref sig .tc := ⟨.hbm, 446, rfl⟩
abbrev main_v267 : Ref sig .tc := ⟨.hbm, 447, rfl⟩
abbrev main_c_52 : Ref sig .tc := ⟨.hbm, 448, rfl⟩
abbrev main_call19_v0 : Ref sig .tc := ⟨.hbm, 449, rfl⟩
abbrev main_v268 : Ref sig .tc := ⟨.hbm, 450, rfl⟩
abbrev main_v269 : Ref sig .tc := ⟨.hbm, 451, rfl⟩
abbrev main_v270 : Ref sig .tc := ⟨.hbm, 452, rfl⟩
abbrev main_v271 : Ref sig .tc := ⟨.hbm, 453, rfl⟩
abbrev main_v272 : Ref sig .tc := ⟨.hbm, 454, rfl⟩
abbrev main_v273 : Ref sig .tc := ⟨.hbm, 455, rfl⟩
abbrev main_cst_53 : Ref sig .tc := ⟨.hbm, 456, rfl⟩
abbrev main_v274 : Ref sig .tc := ⟨.hbm, 457, rfl⟩
abbrev main_v275 : Ref sig .tc := ⟨.hbm, 458, rfl⟩
abbrev main_c_54 : Ref sig .tc := ⟨.hbm, 459, rfl⟩
abbrev main_call20_v0 : Ref sig .tc := ⟨.hbm, 460, rfl⟩
abbrev main_v276 : Ref sig .tc := ⟨.hbm, 461, rfl⟩
abbrev main_v277 : Ref sig .tc := ⟨.hbm, 462, rfl⟩
abbrev main_v278 : Ref sig .tc := ⟨.hbm, 463, rfl⟩
abbrev main_v279 : Ref sig .tc := ⟨.hbm, 464, rfl⟩
abbrev main_v280 : Ref sig .tc := ⟨.hbm, 465, rfl⟩
abbrev main_v281 : Ref sig .tc := ⟨.hbm, 466, rfl⟩
abbrev main_cst_55 : Ref sig .tc := ⟨.hbm, 467, rfl⟩
abbrev main_v282 : Ref sig .tc := ⟨.hbm, 468, rfl⟩
abbrev main_v283 : Ref sig .tc := ⟨.hbm, 469, rfl⟩
abbrev main_c_56 : Ref sig .tc := ⟨.hbm, 470, rfl⟩
abbrev main_call21_v0 : Ref sig .tc := ⟨.hbm, 471, rfl⟩
abbrev main_v284 : Ref sig .tc := ⟨.hbm, 472, rfl⟩
abbrev main_v285 : Ref sig .tc := ⟨.hbm, 473, rfl⟩
abbrev main_v286 : Ref sig .tc := ⟨.hbm, 474, rfl⟩
abbrev main_v287 : Ref sig .tc := ⟨.hbm, 475, rfl⟩
abbrev main_v288 : Ref sig .tc := ⟨.hbm, 476, rfl⟩
abbrev main_v289 : Ref sig .tc := ⟨.hbm, 477, rfl⟩
abbrev main_cst_57 : Ref sig .tc := ⟨.hbm, 478, rfl⟩
abbrev main_v290 : Ref sig .tc := ⟨.hbm, 479, rfl⟩
abbrev main_v291 : Ref sig .tc := ⟨.hbm, 480, rfl⟩
abbrev main_c_58 : Ref sig .tc := ⟨.hbm, 481, rfl⟩
abbrev main_call22_v0 : Ref sig .tc := ⟨.hbm, 482, rfl⟩
abbrev main_v292 : Ref sig .tc := ⟨.hbm, 483, rfl⟩
abbrev main_v293 : Ref sig .tc := ⟨.hbm, 484, rfl⟩
abbrev main_v294 : Ref sig .tc := ⟨.hbm, 485, rfl⟩
abbrev main_v295 : Ref sig .tc := ⟨.hbm, 486, rfl⟩
abbrev main_v296 : Ref sig .tc := ⟨.hbm, 487, rfl⟩
abbrev main_v297 : Ref sig .tc := ⟨.hbm, 488, rfl⟩
abbrev main_cst_59 : Ref sig .tc := ⟨.hbm, 489, rfl⟩
abbrev main_v298 : Ref sig .tc := ⟨.hbm, 490, rfl⟩
abbrev main_v299 : Ref sig .tc := ⟨.hbm, 491, rfl⟩
abbrev main_c_60 : Ref sig .tc := ⟨.hbm, 492, rfl⟩
abbrev main_call23_v0 : Ref sig .tc := ⟨.hbm, 493, rfl⟩
abbrev main_v300 : Ref sig .tc := ⟨.hbm, 494, rfl⟩
abbrev main_v301 : Ref sig .tc := ⟨.hbm, 495, rfl⟩
abbrev main_v302 : Ref sig .tc := ⟨.hbm, 496, rfl⟩
abbrev main_v303 : Ref sig .tc := ⟨.hbm, 497, rfl⟩
abbrev main_v304 : Ref sig .tc := ⟨.hbm, 498, rfl⟩
abbrev main_v305 : Ref sig .tc := ⟨.hbm, 499, rfl⟩
abbrev main_cst_61 : Ref sig .tc := ⟨.hbm, 500, rfl⟩
abbrev main_v306 : Ref sig .tc := ⟨.hbm, 501, rfl⟩
abbrev main_v307 : Ref sig .tc := ⟨.hbm, 502, rfl⟩
abbrev main_c_62 : Ref sig .tc := ⟨.hbm, 503, rfl⟩
abbrev main_call24_v0 : Ref sig .tc := ⟨.hbm, 504, rfl⟩
abbrev main_v308 : Ref sig .tc := ⟨.hbm, 505, rfl⟩
abbrev main_v309 : Ref sig .tc := ⟨.hbm, 506, rfl⟩
abbrev main_v310 : Ref sig .tc := ⟨.hbm, 507, rfl⟩
abbrev main_v311 : Ref sig .tc := ⟨.hbm, 508, rfl⟩
abbrev main_v312 : Ref sig .tc := ⟨.hbm, 509, rfl⟩
abbrev main_v313 : Ref sig .tc := ⟨.hbm, 510, rfl⟩
abbrev main_cst_63 : Ref sig .tc := ⟨.hbm, 511, rfl⟩
abbrev main_v314 : Ref sig .tc := ⟨.hbm, 512, rfl⟩
abbrev main_v315 : Ref sig .tc := ⟨.hbm, 513, rfl⟩
abbrev main_c_64 : Ref sig .tc := ⟨.hbm, 514, rfl⟩
abbrev main_call25_v0 : Ref sig .tc := ⟨.hbm, 515, rfl⟩
abbrev main_v316 : Ref sig .tc := ⟨.hbm, 516, rfl⟩
abbrev main_v317 : Ref sig .tc := ⟨.hbm, 517, rfl⟩
abbrev main_v318 : Ref sig .tc := ⟨.hbm, 518, rfl⟩
abbrev main_v319 : Ref sig .tc := ⟨.hbm, 519, rfl⟩
abbrev main_v320 : Ref sig .tc := ⟨.hbm, 520, rfl⟩
abbrev main_v321 : Ref sig .tc := ⟨.hbm, 521, rfl⟩
abbrev main_cst_65 : Ref sig .tc := ⟨.hbm, 522, rfl⟩
abbrev main_v322 : Ref sig .tc := ⟨.hbm, 523, rfl⟩
abbrev main_v323 : Ref sig .tc := ⟨.hbm, 524, rfl⟩
abbrev main_c_66 : Ref sig .tc := ⟨.hbm, 525, rfl⟩
abbrev main_call26_v0 : Ref sig .tc := ⟨.hbm, 526, rfl⟩
abbrev main_v324 : Ref sig .tc := ⟨.hbm, 527, rfl⟩
abbrev main_v325 : Ref sig .tc := ⟨.hbm, 528, rfl⟩
abbrev main_v326 : Ref sig .tc := ⟨.hbm, 529, rfl⟩
abbrev main_v327 : Ref sig .tc := ⟨.hbm, 530, rfl⟩
abbrev main_v328 : Ref sig .tc := ⟨.hbm, 531, rfl⟩
abbrev main_v329 : Ref sig .tc := ⟨.hbm, 532, rfl⟩
abbrev main_cst_67 : Ref sig .tc := ⟨.hbm, 533, rfl⟩
abbrev main_v330 : Ref sig .tc := ⟨.hbm, 534, rfl⟩
abbrev main_v331 : Ref sig .tc := ⟨.hbm, 535, rfl⟩
abbrev main_c_68 : Ref sig .tc := ⟨.hbm, 536, rfl⟩
abbrev main_call27_v0 : Ref sig .tc := ⟨.hbm, 537, rfl⟩
abbrev main_v332 : Ref sig .tc := ⟨.hbm, 538, rfl⟩
abbrev main_v333 : Ref sig .tc := ⟨.hbm, 539, rfl⟩
abbrev main_v334 : Ref sig .tc := ⟨.hbm, 540, rfl⟩
abbrev main_v335 : Ref sig .tc := ⟨.hbm, 541, rfl⟩
abbrev main_v336 : Ref sig .tc := ⟨.hbm, 542, rfl⟩
abbrev main_v337 : Ref sig .tc := ⟨.hbm, 543, rfl⟩
abbrev main_cst_69 : Ref sig .tc := ⟨.hbm, 544, rfl⟩
abbrev main_v338 : Ref sig .tc := ⟨.hbm, 545, rfl⟩
abbrev main_v339 : Ref sig .tc := ⟨.hbm, 546, rfl⟩
abbrev main_c_70 : Ref sig .tc := ⟨.hbm, 547, rfl⟩
abbrev main_call28_v0 : Ref sig .tc := ⟨.hbm, 548, rfl⟩
abbrev main_v340 : Ref sig .tc := ⟨.hbm, 549, rfl⟩
abbrev main_v341 : Ref sig .tc := ⟨.hbm, 550, rfl⟩
abbrev main_v342 : Ref sig .tc := ⟨.hbm, 551, rfl⟩
abbrev main_v343 : Ref sig .tc := ⟨.hbm, 552, rfl⟩
abbrev main_v344 : Ref sig .tc := ⟨.hbm, 553, rfl⟩
abbrev main_v345 : Ref sig .tc := ⟨.hbm, 554, rfl⟩
abbrev main_cst_71 : Ref sig .tc := ⟨.hbm, 555, rfl⟩
abbrev main_v346 : Ref sig .tc := ⟨.hbm, 556, rfl⟩
abbrev main_v347 : Ref sig .tc := ⟨.hbm, 557, rfl⟩
abbrev main_c_72 : Ref sig .tc := ⟨.hbm, 558, rfl⟩
abbrev main_call29_v0 : Ref sig .tc := ⟨.hbm, 559, rfl⟩
abbrev main_v348 : Ref sig .tc := ⟨.hbm, 560, rfl⟩
abbrev main_v349 : Ref sig .tc := ⟨.hbm, 561, rfl⟩
abbrev main_v350 : Ref sig .tc := ⟨.hbm, 562, rfl⟩
abbrev main_v351 : Ref sig .tc := ⟨.hbm, 563, rfl⟩
abbrev main_v352 : Ref sig .tc := ⟨.hbm, 564, rfl⟩
abbrev main_v353 : Ref sig .tc := ⟨.hbm, 565, rfl⟩
abbrev main_cst_73 : Ref sig .tc := ⟨.hbm, 566, rfl⟩
abbrev main_v354 : Ref sig .tc := ⟨.hbm, 567, rfl⟩
abbrev main_v355 : Ref sig .tc := ⟨.hbm, 568, rfl⟩
abbrev main_cst_74 : Ref sig .tc := ⟨.hbm, 569, rfl⟩
abbrev main_v356 : Ref sig .tc := ⟨.hbm, 570, rfl⟩
abbrev main_v357 : Ref sig .tc := ⟨.hbm, 571, rfl⟩
abbrev main_v358 : Ref sig .tc := ⟨.hbm, 572, rfl⟩

abbrev nD : Nat := 1
abbrev τ : Topo := Topo.v7x

variable {F : FTy → Type} [FloatOps F]
-- ==== Proof.KRun.lean ====
/-
  The kernel's run, with the result array at what the last boundary holds. The launch's set-up is the generated frame's
  (Gen/KernelIdeal/Frame.lean); the post keeps one more buffer, the result `main_v21`, at the fold's contents `W12`.
-/
module

public import proofs.«01_k».proof.Proof.Gen.KernelIdeal.Frame

@[expose] public section

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with the result array at the last boundary's contents and each argument array as
    launched. -/
theorem run : θ_run defs (onTc (τ := τ) (main (F := F))) ⟨m, fun _ => 0, ρ⟩ (fun r => ∀ c : Dev nD,
      r.2.mem ((c.tc : Thread nD τ).loc main_v21) = W12 m ρ c (Proc.devRef .tc main_v21)
      ∧ ∀ a ∈ argRefs, r.2.mem ((c.tc : Thread nD τ).loc a) = m ((c.tc : Thread nD τ).loc a)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz c => ⟨h c _ (mem_uc main_v21 (by decide)), fun a ha =>
      (h c _ (mem_uc a ((by decide : ∀ a ∈ argRefs, ¬ (Proc.devRef .tc a : DevRef τ sig).isScoped) a ha))).trans
        (W12_args m ρ c a ha)⟩)

end Cert.Proof.KRun

end
-- ==== Proof.KArr.lean ====
/-
  What each region of the kernel leaves in its output array, as one function of the arrays it finds.
-/
module

public import proofs.«01_k».proof.Proof.Gen.KernelIdeal.Frame
public import Idealize.ShloMosaic.Lib.Pipeline.ValueKit

@[expose] public section

noncomputable section

namespace Cert.Proof.KArr

open Cert.KernelIdeal Cert.KernelIdeal.Gen
open Idealize.ShloMosaic Idealize.ShloMosaic.TcCoe Idealize.SL.Sem
open Idealize.ShloMosaic.Pipeline (Dat Cfg Window)

variable {F : FTy → Type} [FloatOps F] [Named F]
variable (V : (c : Dev nD) → (b : Ref sig .tc) → Buf (Elt F) ((c : Thread nD τ).loc b))

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- A region without a grid has one point, at which each input block is the whole array. -/
theorem blk0 (c : Dev nD) (t : Fin cfg0.N) :
    iblk0 V c 0 t = V c main_v2 ∧ iblk0 V c 1 t = V c main_v3 ∧ iblk0 V c 2 t = V c main_v4 := by
  refine ⟨?_, ?_, ?_⟩ <;> funext j <;> blk_simp [iblk0]
  · refine congrArg (V c main_v2) ?_
    blk_ext [(by decide +kernel : ∀ t : Fin grid0.N, win0_0.index t = ![0, 0]) t]
  · refine congrArg (V c main_v3) ?_
    blk_ext [(by decide +kernel : ∀ t : Fin grid0.N, win0_1.index t = ![0, 0]) t]
  · refine congrArg (V c main_v4) ?_
    blk_ext [(by decide +kernel : ∀ t : Fin grid0.N, win0_2.index t = ![0, 0]) t]

/-- Region 0's output array is its body's payload at its input arrays. -/
theorem arr0 (c : Dev nD) : (dat0 V c).arrAt 3 cfg0.N = k0_pay1 (V c main_v2) (V c main_v3) (V c main_v4) := by
  refine (dat0 V c).arrAt_eq_of_covers 3 _ (by decide +kernel) fun t hf y => ?_
  have e : ((win0_3.blk t).view.emb y : S128x240.Idx) = y := by
    blk_ext [(by decide +kernel : ∀ t : Fin grid0.N, win0_3.index t = ![0, 0]) t]
  obtain ⟨h0, h1, h2⟩ := blk0 V c t
  blk_simp
  rw [after0_3, e]
  unfold out0_3
  rw [View.canon_unit_zero z2, View.ld_unit_zero z2, View.ld_unit_zero z2, View.ld_unit_zero z2, h0, h1, h2]

/-- Region 1's input blocks are whole arrays. -/
theorem blk1 (c : Dev nD) (t : Fin cfg1.N) :
    iblk1 V c 0 t = V c main_v8 ∧ iblk1 V c 1 t = V c main_arg4 ∧ iblk1 V c 2 t = V c main_v9 := by
  refine ⟨?_, ?_, ?_⟩ <;> funext j <;> blk_simp [iblk1]
  · refine congrArg (V c main_v8) ?_
    blk_ext [(by decide +kernel : ∀ t : Fin grid1.N, win1_0.index t = ![0, 0, 0]) t]
  · refine congrArg (V c main_arg4) ?_
    blk_ext [(by decide +kernel : ∀ t : Fin grid1.N, win1_1.index t = ![0, 0]) t]
  · refine congrArg (V c main_v9) ?_
    blk_ext [(by decide +kernel : ∀ t : Fin grid1.N, win1_2.index t = ![0, 0]) t]

/-- Region 1's output array is its body's payload at its input arrays. -/
theorem arr1 (c : Dev nD) : (dat1 V c).arrAt 3 cfg1.N = k1_pay1 (V c main_v8) (V c main_arg4) (V c main_v9) := by
  refine (dat1 V c).arrAt_eq_of_covers 3 _ (by decide +kernel) fun t hf y => ?_
  have e : ((win1_3.blk t).view.emb y : S16x64x2x30.Idx) = y := by
    blk_ext [(by decide +kernel : ∀ t : Fin grid1.N, win1_3.index t = ![0, 0, 0, 0]) t]
  obtain ⟨h0, h1, h2⟩ := blk1 V c t
  blk_simp
  rw [after1_3, e]
  unfold out1_3
  rw [View.canon_unit_zero z4, View.ld_unit_zero z3, View.ld_unit_zero z2, View.ld_unit_zero z2, h0, h1, h2]

/-- Region 2's input blocks are whole arrays. -/
theorem blk2 (c : Dev nD) (t : Fin cfg2.N) :
    iblk2 V c 0 t = V c main_v11 ∧ iblk2 V c 1 t = V c main_arg6 ∧ iblk2 V c 2 t = V c main_v12 := by
  refine ⟨?_, ?_, ?_⟩ <;> funext j <;> blk_simp [iblk2]
  · refine congrArg (V c main_v11) ?_
    blk_ext [(by decide +kernel : ∀ t : Fin grid2.N, win2_0.index t = ![0, 0, 0]) t]
  · refine congrArg (V c main_arg6) ?_
    blk_ext [(by decide +kernel : ∀ t : Fin grid2.N, win2_1.index t = ![0, 0]) t]
  · refine congrArg (V c main_v12) ?_
    blk_ext [(by decide +kernel : ∀ t : Fin grid2.N, win2_2.index t = ![0, 0]) t]

/-- Region 2's output array is its body's payload at its input arrays. -/
theorem arr2 (c : Dev nD) : (dat2 V c).arrAt 3 cfg2.N = k2_pay1 (V c main_v11) (V c main_arg6) (V c main_v12) := by
  refine (dat2 V c).arrAt_eq_of_covers 3 _ (by decide +kernel) fun t hf y => ?_
  have e : ((win2_3.blk t).view.emb y : S16x32x2x120.Idx) = y := by
    blk_ext [(by decide +kernel : ∀ t : Fin grid2.N, win2_3.index t = ![0, 0, 0, 0]) t]
  obtain ⟨h0, h1, h2⟩ := blk2 V c t
  blk_simp
  rw [after2_3, e]
  unfold out2_3
  rw [View.canon_unit_zero z4, View.ld_unit_zero z3, View.ld_unit_zero z2, View.ld_unit_zero z2, h0, h1, h2]

/-- Region 3's input blocks are whole arrays. -/
theorem blk3 (c : Dev nD) (t : Fin cfg3.N) :
    iblk3 V c 0 t = V c main_v14 ∧ iblk3 V c 1 t = V c main_arg8 ∧ iblk3 V c 2 t = V c main_v15 := by
  refine ⟨?_, ?_, ?_⟩ <;> funext j <;> blk_simp [iblk3]
  · refine congrArg (V c main_v14) ?_
    blk_ext [(by decide +kernel : ∀ t : Fin grid3.N, win3_0.index t = ![0, 0, 0]) t]
  · refine congrArg (V c main_arg8) ?_
    blk_ext [(by decide +kernel : ∀ t : Fin grid3.N, win3_1.index t = ![0, 0]) t]
  · refine congrArg (V c main_v15) ?_
    blk_ext [(by decide +kernel : ∀ t : Fin grid3.N, win3_2.index t = ![0, 0]) t]

/-- Region 3's output array is its body's payload at its input arrays. -/
theorem arr3 (c : Dev nD) : (dat3 V c).arrAt 3 cfg3.N = k3_pay1 (V c main_v14) (V c main_arg8) (V c main_v15) := by
  refine (dat3 V c).arrAt_eq_of_covers 3 _ (by decide +kernel) fun t hf y => ?_
  have e : ((win3_3.blk t).view.emb y : S16x16x4x480.Idx) = y := by
    blk_ext [(by decide +kernel : ∀ t : Fin grid3.N, win3_3.index t = ![0, 0, 0, 0]) t]
  obtain ⟨h0, h1, h2⟩ := blk3 V c t
  blk_simp
  rw [after3_3, e]
  unfold out3_3
  rw [View.canon_unit_zero z4, View.ld_unit_zero z3, View.ld_unit_zero z2, View.ld_unit_zero z2, h0, h1, h2]

/-- A region over a grid of the 16 samples: point `t`'s block of an array with a sample axis is that of sample `t`. -/
theorem idx4_0 : ∀ t : Fin cfg4.N, win4_0.index t = ![t.val, 0, 0] := (by decide +kernel : ∀ t : Fin grid4.N, _)
theorem idx4_1 : ∀ t : Fin cfg4.N, win4_1.index t = ![0, 0] := (by decide +kernel : ∀ t : Fin grid4.N, _)
theorem idx4_2 : ∀ t : Fin cfg4.N, win4_2.index t = ![0, 0] := (by decide +kernel : ∀ t : Fin grid4.N, _)
theorem idx4_3 : ∀ t : Fin cfg4.N, win4_3.index t = ![t.val, 0, 0] := (by decide +kernel : ∀ t : Fin grid4.N, _)
theorem idx5_0 : ∀ t : Fin cfg5.N, win5_0.index t = ![t.val, 0, 0] := (by decide +kernel : ∀ t : Fin grid5.N, _)
theorem idx5_1 : ∀ t : Fin cfg5.N, win5_1.index t = ![0, 0] := (by decide +kernel : ∀ t : Fin grid5.N, _)
theorem idx5_2 : ∀ t : Fin cfg5.N, win5_2.index t = ![t.val, 0, 0, 0, 0] := (by decide +kernel : ∀ t : Fin grid5.N, _)

/-- Sample `b` of a rank-three array, as an array of one sample. -/
def sample {n0 n1 n2 : Nat} {α : Type} (X : (⟨3, ![n0, n1, n2]⟩ : Shape).Idx → α) (b : Fin n0) :
    (⟨3, ![1, n1, n2]⟩ : Shape).Idx → α := fun y => X (ix3 b (y 1) (y 2))

/-- Region 4 (the last layer): sample by sample, its body's payload. -/
theorem arr4 (c : Dev nD) : (dat4 V c).arrAt 3 cfg4.N = fun i : S16x3x1920.Idx =>
    k4_pay1 (sample (V c main_v17) (i 0)) (V c main_arg10) (V c main_v18) (ix3 0 (i 1) (i 2)) := by
  refine (dat4 V c).arrAt_eq_of_covers 3 _ (by decide +kernel) fun t hf y => ?_
  have e0 : iblk4 V c 0 t = sample (V c main_v17) (((win4_3.blk t).view.emb y : S16x3x1920.Idx) 0) := by
    funext j; blk_simp [iblk4]; unfold sample; refine congrArg (V c main_v17) ?_
    blk_ext [idx4_0 t, idx4_3 t]
  have e1 : iblk4 V c 1 t = V c main_arg10 := by
    funext j; blk_simp [iblk4]; refine congrArg (V c main_arg10) ?_; blk_ext [idx4_1 t]
  have e2 : iblk4 V c 2 t = V c main_v18 := by
    funext j; blk_simp [iblk4]; refine congrArg (V c main_v18) ?_; blk_ext [idx4_2 t]
  have e3 : (ix3 0 (((win4_3.blk t).view.emb y : S16x3x1920.Idx) 1) (((win4_3.blk t).view.emb y : S16x3x1920.Idx) 2) : S1x3x1920.Idx) = y := by
    blk_ext [idx4_3 t]
  blk_simp
  rw [after4_3, e0, e1, e2, e3]
  unfold out4_3
  rw [View.canon_unit_zero z3, View.ld_unit_zero z3, View.ld_unit_zero z2, View.ld_unit_zero z2]

/-- Region 5 (the voxels): sample by sample, what its body leaves. -/
theorem arr5 (c : Dev nD) : (dat5 V c).arrAt 2 cfg5.N = fun i : S16x1x128x128x128.Idx =>
    out5_2 (sample (V c main_v19) (i 0)) (V c main_v20) (ix5 0 (i 1) (i 2) (i 3) (i 4)) := by
  refine (dat5 V c).arrAt_eq_of_covers 2 _ (by decide +kernel) fun t hf y => ?_
  have e0 : iblk5 V c 0 t = sample (V c main_v19) (((win5_2.blk t).view.emb y : S16x1x128x128x128.Idx) 0) := by
    funext j; blk_simp [iblk5]; unfold sample; refine congrArg (V c main_v19) ?_
    blk_ext [idx5_0 t, idx5_2 t]
  have e1 : iblk5 V c 1 t = V c main_v20 := by
    funext j; blk_simp [iblk5]; refine congrArg (V c main_v20) ?_; blk_ext [idx5_1 t]
  have e3 : (ix5 0 (((win5_2.blk t).view.emb y : S16x1x128x128x128.Idx) 1) (((win5_2.blk t).view.emb y : S16x1x128x128x128.Idx) 2)
      (((win5_2.blk t).view.emb y : S16x1x128x128x128.Idx) 3) (((win5_2.blk t).view.emb y : S16x1x128x128x128.Idx) 4) : S1x1x128x128x128.Idx) = y := by
    blk_ext [idx5_2 t]
  blk_simp
  rw [after5_2, e0, e1, e3]

end Cert.Proof.KArr

end
-- ==== Proof.KMlp.lean ====
/-
  The coordinates: the kernel's five regions up to its hyperbolic tangent compute what the reference's host operations
  compute, region by region.
-/
module

public import proofs.«01_k».proof.Proof.Gen.KernelIdeal.Frame
public import proofs.«01_k».proof.Proof.Gen.ReferenceIdeal.Read
public import proofs.«01_k».proof.Proof.KArr
public import Idealize.ShloMosaic.Lib.Pipeline.ValueKit
public import Idealize.ShloMosaic.Lib.Pointwise

@[expose] public section

set_option maxRecDepth 16384

noncomputable section

namespace Cert.Proof.KMlp

open Cert.KernelIdeal Cert.KernelIdeal.Gen
open Idealize.ShloMosaic Idealize.SL.Sem
open Cert.ReferenceIdeal.Read
open Cert.Proof.KArr (sample)

/-- The correction of the variance's divisor is zero. -/
theorem corr : FloatOps.sitofp (F := Ideal) .f32 (0#32) = (0 : EReal) := by
  show (((0#32 : BitVec 32).toInt : ℝ) : EReal) = 0
  simp

theorem pos_30 : (0 : EReal) < Ideal.ofBits .f32 1106247680#32 := by
  simp [Ideal.ofBits, Ideal.ieee, -EReal.coe_mul]
theorem pos_120 : (0 : EReal) < Ideal.ofBits .f32 0x42F00000#32 := by
  simp [Ideal.ofBits, Ideal.ieee, -EReal.coe_mul]
theorem pos_480 : (0 : EReal) < Ideal.ofBits .f32 0x43F00000#32 := by
  simp [Ideal.ofBits, Ideal.ieee, -EReal.coe_mul]
theorem pos_1920 : (0 : EReal) < Ideal.ofBits .f32 0x44F00000#32 := by
  simp [Ideal.ofBits, Ideal.ieee, -EReal.coe_mul]

section Layers

variable (x0 : Vec Ideal S16x2048 .f32) (x2 : Vec Ideal S240x256 .f32) (x3 : Vec Ideal S240 .f32)
  (x4 : Vec Ideal S64x2 .f32) (x5 : Vec Ideal S128 .f32) (x6 : Vec Ideal S32x2 .f32) (x7 : Vec Ideal S64 .f32)
  (x8 : Vec Ideal S16x4 .f32) (x9 : Vec Ideal S64 .f32) (x10 : Vec Ideal S3x16 .f32) (x11 : Vec Ideal S3 .f32)

/-- The first layer's operands and result, as the host lays them out around region 0. -/
def first : FVec Ideal S16x240x8 .f32 :=
  transpose S16x240x8 [0, 2, 1]
    (shapeCast S16x8x240
      (k0_pay1
        (shapeCast S128x256 (transpose S16x8x256 [0, 2, 1] (shapeCast S16x256x8 x0 shapeCasts_S16x2048_S16x256x8)
          transposes_S16x256x8_S16x8x256_0_2_1) shapeCasts_S16x8x256_S128x256)
        (transpose S256x240 [1, 0] x2 transposes_S240x256_S256x240_1_0)
        (shapeCast S1x240 x3 shapeCasts_S240_S1x240))
      shapeCasts_S128x240_S16x8x240)
    transposes_S16x8x240_S16x240x8_0_2_1

/-- Region 0 is the first layer. -/
theorem first_eq : first x0 x2 x3 = val_main_v5 x0 x2 x3 := by
  funext i
  obtain ⟨n, o, l, rfl⟩ : ∃ (n : Fin 16) (o : Fin 240) (l : Fin 8), i = ix3 n o l := ⟨i 0, i 1, i 2, eq_ix3 i⟩
  simp only [val_main_v5, val_main_v4, val_main_v3, val_main_v2, val_main_v1, val_main_v0]
  pointwise [first, k0_pay1]
  exact congrArg (· + _) (Finset.sum_congr rfl fun _ _ => mul_comm _ _)

/-- Region 1 is the reference's first normalisation and grouped layer, of what the layer before it left. -/
theorem layer1_eq : k1_pay1 (val_main_v6 x0 x2 x3) x4 (shapeCast S64x2 x5 shapeCasts_S128_S64x2)
    = val_main_v27 x0 x2 x3 x4 x5 := by
  funext i
  obtain ⟨n, c, r, l, rfl⟩ : ∃ (n : Fin 16) (c : Fin 64) (r : Fin 2) (l : Fin 30), i = ix4 n c r l :=
    ⟨i 0, i 1, i 2, i 3, eq_ix4 i⟩
  simp only [val_main_v27, val_main_v26, val_main_v25, val_main_v24, val_main_v23, val_main_v22, val_main_v21, val_main_v20,
    val_main_v19, val_main_call1_v0, val_main_call1_cst, val_main_v18, val_main_v17, val_main_v16, val_main_v15,
    val_main_v14, val_main_cst_1, val_main_v13, val_main_v12, val_main_v11, val_main_call0_call0_v1,
    val_main_call0_call0_v0, val_main_call0_cst_4, val_main_call0_v13, val_main_call0_cst_3, val_main_call0_v12,
    val_main_call0_v11, val_main_call0_v10, val_main_call0_v9, val_main_call0_cst_2, val_main_call0_v8,
    val_main_call0_cst_1, val_main_call0_v7, val_main_call0_v6, val_main_call0_v5, val_main_call0_v4,
    val_main_call0_v3, val_main_call0_v2, val_main_call0_cst_0, val_main_call0_v1, val_main_call0_v0,
    val_main_call0_cst, val_main_c, val_main_v10, val_main_v9, val_main_cst_0, val_main_v8, val_main_v7,
    val_main_cst]
  generalize val_main_v6 (F := Ideal) x0 x2 x3 = X
  pointwise [k1_pay1]
  rw [corr, sub_zero, if_pos pos_30]

/-- Region 2 is the reference's second normalisation and grouped layer, of what the layer before it left. -/
theorem layer2_eq : k2_pay1 (val_main_v28 x0 x2 x3 x4 x5) x6 (shapeCast S32x2 x7 shapeCasts_S64_S32x2)
    = val_main_v49 x0 x2 x3 x4 x5 x6 x7 := by
  funext i
  obtain ⟨n, c, r, l, rfl⟩ : ∃ (n : Fin 16) (c : Fin 32) (r : Fin 2) (l : Fin 120), i = ix4 n c r l :=
    ⟨i 0, i 1, i 2, i 3, eq_ix4 i⟩
  simp only [val_main_v49, val_main_v48, val_main_v47, val_main_v46, val_main_v45, val_main_v44, val_main_v43, val_main_v42,
    val_main_v41, val_main_call3_v0, val_main_call3_cst, val_main_v40, val_main_v39, val_main_v38, val_main_v37,
    val_main_v36, val_main_cst_5, val_main_v35, val_main_v34, val_main_v33, val_main_call2_call0_v1,
    val_main_call2_call0_v0, val_main_call2_cst_4, val_main_call2_v13, val_main_call2_cst_3, val_main_call2_v12,
    val_main_call2_v11, val_main_call2_v10, val_main_call2_v9, val_main_call2_cst_2, val_main_call2_v8,
    val_main_call2_cst_1, val_main_call2_v7, val_main_call2_v6, val_main_call2_v5, val_main_call2_v4,
    val_main_call2_v3, val_main_call2_v2, val_main_call2_cst_0, val_main_call2_v1, val_main_call2_v0,
    val_main_call2_cst, val_main_c_4, val_main_v32, val_main_v31, val_main_cst_3, val_main_v30, val_main_v29,
    val_main_cst_2]
  generalize val_main_v28 (F := Ideal) x0 x2 x3 x4 x5 = X
  pointwise [k2_pay1]
  rw [corr, sub_zero, if_pos pos_120]

/-- Region 3 is the reference's third normalisation and grouped layer, of what the layer before it left. -/
theorem layer3_eq : k3_pay1 (val_main_v50 x0 x2 x3 x4 x5 x6 x7) x8 (shapeCast S16x4 x9 shapeCasts_S64_S16x4)
    = val_main_v71 x0 x2 x3 x4 x5 x6 x7 x8 x9 := by
  funext i
  obtain ⟨n, c, r, l, rfl⟩ : ∃ (n : Fin 16) (c : Fin 16) (r : Fin 4) (l : Fin 480), i = ix4 n c r l :=
    ⟨i 0, i 1, i 2, i 3, eq_ix4 i⟩
  simp only [val_main_v71, val_main_v70, val_main_v69, val_main_v68, val_main_v67, val_main_v66, val_main_v65, val_main_v64,
    val_main_v63, val_main_call5_v0, val_main_call5_cst, val_main_v62, val_main_v61, val_main_v60, val_main_v59,
    val_main_v58, val_main_cst_9, val_main_v57, val_main_v56, val_main_v55, val_main_call4_call0_v1,
    val_main_call4_call0_v0, val_main_call4_cst_4, val_main_call4_v13, val_main_call4_cst_3, val_main_call4_v12,
    val_main_call4_v11, val_main_call4_v10, val_main_call4_v9, val_main_call4_cst_2, val_main_call4_v8,
    val_main_call4_cst_1, val_main_call4_v7, val_main_call4_v6, val_main_call4_v5, val_main_call4_v4,
    val_main_call4_v3, val_main_call4_v2, val_main_call4_cst_0, val_main_call4_v1, val_main_call4_v0,
    val_main_call4_cst, val_main_c_8, val_main_v54, val_main_v53, val_main_cst_7, val_main_v52, val_main_v51,
    val_main_cst_6]
  generalize val_main_v50 (F := Ideal) x0 x2 x3 x4 x5 x6 x7 = X
  pointwise [k3_pay1]
  rw [corr, sub_zero, if_pos pos_480]

/-- Region 4, sample by sample, is the last normalisation, the last layer and the hyperbolic tangent. -/
theorem layer4_eq (b : Fin 16) (d : Fin 3) (l : Fin 1920) :
    k4_pay1 (sample (val_main_v72 x0 x2 x3 x4 x5 x6 x7 x8 x9) b) x10 (shapeCast S3x1 x11 shapeCasts_S3_S3x1)
        (ix3 (0 : Fin 1) d l)
      = val_main_v91 x0 x2 x3 x4 x5 x6 x7 x8 x9 x10 x11 (ix3 b d l) := by
  simp only [val_main_v91, val_main_v90, val_main_v89, val_main_v88, val_main_v87, val_main_v86, val_main_v85,
    val_main_call7_v0, val_main_call7_cst, val_main_v84, val_main_v83, val_main_v82, val_main_v81, val_main_v80,
    val_main_cst_13, val_main_v79, val_main_v78, val_main_v77, val_main_call6_call0_v1, val_main_call6_call0_v0,
    val_main_call6_cst_4, val_main_call6_v13, val_main_call6_cst_3, val_main_call6_v12, val_main_call6_v11,
    val_main_call6_v10, val_main_call6_v9, val_main_call6_cst_2, val_main_call6_v8, val_main_call6_cst_1,
    val_main_call6_v7, val_main_call6_v6, val_main_call6_v5, val_main_call6_v4, val_main_call6_v3,
    val_main_call6_v2, val_main_call6_cst_0, val_main_call6_v1, val_main_call6_v0, val_main_call6_cst,
    val_main_c_12, val_main_v76, val_main_v75, val_main_cst_11, val_main_v74, val_main_v73, val_main_cst_10]
  generalize val_main_v72 (F := Ideal) x0 x2 x3 x4 x5 x6 x7 x8 x9 = X
  pointwise [k4_pay1, sample]
  simp only [corr, sub_zero, pos_1920, if_true]

end Layers

end Cert.Proof.KMlp

end
-- ==== Proof.KCoord.lean ====
/-
  What the kernel's arrays hold at the last two boundaries: the coordinates region 4 leaves are the reference's, and the
  result is the voxel region's block of each sample.
-/
module

public import proofs.«01_k».proof.Proof.KMlp

@[expose] public section

set_option maxRecDepth 16384

noncomputable section

namespace Cert.Proof.KCoord

open Cert.KernelIdeal Cert.KernelIdeal.Gen
open Idealize.ShloMosaic Idealize.ShloMosaic.TcCoe Idealize.ShloMosaic.Tactic Idealize.SL.Sem
open Cert.ReferenceIdeal.Read
open Cert.Proof.KArr Cert.Proof.KMlp

variable (m : (ℓ : Loc nD τ sig) → Buf (Elt Ideal) ℓ) (ρ : Dev nD → PrngReg) (c : Dev nD)

section Host

variable (V : Valuation τ sig (Elt Ideal))

theorem at_v2 : StableHlo.after hostOps0 V (Proc.devRef .tc main_v2)
    = shapeCast S128x256 (transpose S16x8x256 [0, 2, 1] (shapeCast S16x256x8 (V (Proc.devRef .tc main_arg0))
        shapeCasts_S16x2048_S16x256x8) transposes_S16x256x8_S16x8x256_0_2_1) shapeCasts_S16x8x256_S128x256 := by
  after_results
  rfl

theorem at_v3 : StableHlo.after hostOps0 V (Proc.devRef .tc main_v3)
    = transpose S256x240 [1, 0] (V (Proc.devRef .tc main_arg2)) transposes_S240x256_S256x240_1_0 := by
  after_results

theorem at_v4 : StableHlo.after hostOps0 V (Proc.devRef .tc main_v4)
    = shapeCast S1x240 (V (Proc.devRef .tc main_arg3)) shapeCasts_S240_S1x240 := by
  after_results
  rfl

theorem at_v8 : StableHlo.after hostOps1 V (Proc.devRef .tc main_v8)
    = shapeCast S16x64x30 (transpose S16x240x8 [0, 2, 1] (shapeCast S16x8x240 (V (Proc.devRef .tc main_v5))
        shapeCasts_S128x240_S16x8x240) transposes_S16x8x240_S16x240x8_0_2_1) shapeCasts_S16x240x8_S16x64x30 := by
  after_results
  rfl

theorem at_v9 : StableHlo.after hostOps1 V (Proc.devRef .tc main_v9)
    = shapeCast S64x2 (V (Proc.devRef .tc main_arg5)) shapeCasts_S128_S64x2 := by
  after_results
  rfl

theorem at_v11 : StableHlo.after hostOps2 V (Proc.devRef .tc main_v11)
    = shapeCast S16x32x120 (V (Proc.devRef .tc main_v10)) shapeCasts_S16x64x2x30_S16x32x120 := by
  after_results
  rfl

theorem at_v12 : StableHlo.after hostOps2 V (Proc.devRef .tc main_v12)
    = shapeCast S32x2 (V (Proc.devRef .tc main_arg7)) shapeCasts_S64_S32x2 := by
  after_results
  rfl

theorem at_v14 : StableHlo.after hostOps3 V (Proc.devRef .tc main_v14)
    = shapeCast S16x16x480 (V (Proc.devRef .tc main_v13)) shapeCasts_S16x32x2x120_S16x16x480 := by
  after_results
  rfl

theorem at_v15 : StableHlo.after hostOps3 V (Proc.devRef .tc main_v15)
    = shapeCast S16x4 (V (Proc.devRef .tc main_arg9)) shapeCasts_S64_S16x4 := by
  after_results
  rfl

theorem at_v17 : StableHlo.after hostOps4 V (Proc.devRef .tc main_v17)
    = shapeCast S16x16x1920 (V (Proc.devRef .tc main_v16)) shapeCasts_S16x16x4x480_S16x16x1920 := by
  after_results
  rfl

theorem at_v18 : StableHlo.after hostOps4 V (Proc.devRef .tc main_v18)
    = shapeCast S3x1 (V (Proc.devRef .tc main_arg11)) shapeCasts_S3_S3x1 := by
  after_results
  rfl

theorem at_v20 : StableHlo.after hostOps5 V (Proc.devRef .tc main_v20)
    = shapeCast S1x1920 (V (Proc.devRef .tc main_arg1)) shapeCasts_S1x1x16x120_S1x1920 := by
  after_results
  rfl

end Host

/-- The arguments as launched. -/
abbrev a0 : Vec Ideal S16x2048 .f32 := m ((c.tc : Thread nD τ).loc main_arg0)
abbrev a1 : Vec Ideal S1x1x16x120 .f32 := m ((c.tc : Thread nD τ).loc main_arg1)
abbrev a2 : Vec Ideal S240x256 .f32 := m ((c.tc : Thread nD τ).loc main_arg2)
abbrev a3 : Vec Ideal S240 .f32 := m ((c.tc : Thread nD τ).loc main_arg3)
abbrev a4 : Vec Ideal S64x2 .f32 := m ((c.tc : Thread nD τ).loc main_arg4)
abbrev a5 : Vec Ideal S128 .f32 := m ((c.tc : Thread nD τ).loc main_arg5)
abbrev a6 : Vec Ideal S32x2 .f32 := m ((c.tc : Thread nD τ).loc main_arg6)
abbrev a7 : Vec Ideal S64 .f32 := m ((c.tc : Thread nD τ).loc main_arg7)
abbrev a8 : Vec Ideal S16x4 .f32 := m ((c.tc : Thread nD τ).loc main_arg8)
abbrev a9 : Vec Ideal S64 .f32 := m ((c.tc : Thread nD τ).loc main_arg9)
abbrev a10 : Vec Ideal S3x16 .f32 := m ((c.tc : Thread nD τ).loc main_arg10)
abbrev a11 : Vec Ideal S3 .f32 := m ((c.tc : Thread nD τ).loc main_arg11)

theorem v5 : W2 m ρ c (Proc.devRef .tc main_v5)
    = k0_pay1 (shapeCast S128x256 (transpose S16x8x256 [0, 2, 1] (shapeCast S16x256x8 (a0 m c) shapeCasts_S16x2048_S16x256x8)
          transposes_S16x256x8_S16x8x256_0_2_1) shapeCasts_S16x8x256_S128x256)
        (transpose S256x240 [1, 0] (a2 m c) transposes_S240x256_S256x240_1_0)
        (shapeCast S1x240 (a3 m c) shapeCasts_S240_S1x240) := by
  refine (W2_arr m ρ c 3).trans ((arr0 (V1 m ρ) c).trans ?_)
  show k0_pay1 (StableHlo.after hostOps0 (W0 m ρ c) (Proc.devRef .tc main_v2))
    (StableHlo.after hostOps0 (W0 m ρ c) (Proc.devRef .tc main_v3))
    (StableHlo.after hostOps0 (W0 m ρ c) (Proc.devRef .tc main_v4)) = _
  rw [at_v2, at_v3, at_v4]

theorem v8 : W3 m ρ c (Proc.devRef .tc main_v8) = val_main_v6 (a0 m c) (a2 m c) (a3 m c) := by
  refine (at_v8 (W2 m ρ c)).trans ?_
  rw [v5]
  exact congrArg (fun X => shapeCast S16x64x30 X shapeCasts_S16x240x8_S16x64x30) (first_eq (a0 m c) (a2 m c) (a3 m c))

theorem mem_args (k : Fin 12) : (![main_arg0, main_arg1, main_arg2, main_arg3, main_arg4, main_arg5, main_arg6, main_arg7,
    main_arg8, main_arg9, main_arg10, main_arg11] k : Ref sig .tc) ∈ argRefs := by
  revert k; decide +kernel

theorem v10 : W4 m ρ c (Proc.devRef .tc main_v10) = val_main_v27 (a0 m c) (a2 m c) (a3 m c) (a4 m c) (a5 m c) := by
  refine (W4_arr m ρ c 3).trans ((arr1 (V3 m ρ) c).trans ?_)
  have h1 : V3 m ρ c main_v8 = val_main_v6 (a0 m c) (a2 m c) (a3 m c) := v8 m ρ c
  have h2 : V3 m ρ c main_arg4 = a4 m c := W3_args m ρ c _ (mem_args 4)
  have h3 : V3 m ρ c main_v9 = shapeCast S64x2 (a5 m c) shapeCasts_S128_S64x2 := by
    refine (at_v9 (W2 m ρ c)).trans ?_
    rw [W2_args m ρ c main_arg5 (mem_args 5)]
  rw [h1, h2, h3]
  exact layer1_eq (a0 m c) (a2 m c) (a3 m c) (a4 m c) (a5 m c)

theorem v11 : W5 m ρ c (Proc.devRef .tc main_v11) = val_main_v28 (a0 m c) (a2 m c) (a3 m c) (a4 m c) (a5 m c) := by
  refine (at_v11 (W4 m ρ c)).trans ?_
  rw [v10]
  rfl

theorem v13 : W6 m ρ c (Proc.devRef .tc main_v13) = val_main_v49 (a0 m c) (a2 m c) (a3 m c) (a4 m c) (a5 m c) (a6 m c) (a7 m c) := by
  refine (W6_arr m ρ c 3).trans ((arr2 (V5 m ρ) c).trans ?_)
  have h1 : V5 m ρ c main_v11 = val_main_v28 (a0 m c) (a2 m c) (a3 m c) (a4 m c) (a5 m c) := v11 m ρ c
  have h2 : V5 m ρ c main_arg6 = a6 m c := W5_args m ρ c _ (mem_args 6)
  have h3 : V5 m ρ c main_v12 = shapeCast S32x2 (a7 m c) shapeCasts_S64_S32x2 := by
    refine (at_v12 (W4 m ρ c)).trans ?_
    rw [W4_args m ρ c main_arg7 (mem_args 7)]
  rw [h1, h2, h3]
  exact layer2_eq (a0 m c) (a2 m c) (a3 m c) (a4 m c) (a5 m c) (a6 m c) (a7 m c)

theorem v14 : W7 m ρ c (Proc.devRef .tc main_v14) = val_main_v50 (a0 m c) (a2 m c) (a3 m c) (a4 m c) (a5 m c) (a6 m c) (a7 m c) := by
  refine (at_v14 (W6 m ρ c)).trans ?_
  rw [v13]
  rfl

theorem v16 : W8 m ρ c (Proc.devRef .tc main_v16) = val_main_v71 (a0 m c) (a2 m c) (a3 m c) (a4 m c) (a5 m c) (a6 m c) (a7 m c) (a8 m c) (a9 m c) := by
  refine (W8_arr m ρ c 3).trans ((arr3 (V7 m ρ) c).trans ?_)
  have h1 : V7 m ρ c main_v14 = val_main_v50 (a0 m c) (a2 m c) (a3 m c) (a4 m c) (a5 m c) (a6 m c) (a7 m c) := v14 m ρ c
  have h2 : V7 m ρ c main_arg8 = a8 m c := W7_args m ρ c _ (mem_args 8)
  have h3 : V7 m ρ c main_v15 = shapeCast S16x4 (a9 m c) shapeCasts_S64_S16x4 := by
    refine (at_v15 (W6 m ρ c)).trans ?_
    rw [W6_args m ρ c main_arg9 (mem_args 9)]
  rw [h1, h2, h3]
  exact layer3_eq (a0 m c) (a2 m c) (a3 m c) (a4 m c) (a5 m c) (a6 m c) (a7 m c) (a8 m c) (a9 m c)

theorem v17 : W9 m ρ c (Proc.devRef .tc main_v17) = val_main_v72 (a0 m c) (a2 m c) (a3 m c) (a4 m c) (a5 m c) (a6 m c) (a7 m c) (a8 m c) (a9 m c) := by
  refine (at_v17 (W8 m ρ c)).trans ?_
  rw [v16]
  rfl

/-- The coordinates. -/
abbrev coords : FVec Ideal S16x3x1920 .f32 :=
  val_main_v91 (a0 m c) (a2 m c) (a3 m c) (a4 m c) (a5 m c) (a6 m c) (a7 m c) (a8 m c) (a9 m c) (a10 m c) (a11 m c)

theorem v19 : W10 m ρ c (Proc.devRef .tc main_v19) = coords m c := by
  refine (W10_arr m ρ c 3).trans ((arr4 (V9 m ρ) c).trans ?_)
  have h1 : V9 m ρ c main_v17 = val_main_v72 (a0 m c) (a2 m c) (a3 m c) (a4 m c) (a5 m c) (a6 m c) (a7 m c) (a8 m c) (a9 m c) := v17 m ρ c
  have h2 : V9 m ρ c main_arg10 = a10 m c := W9_args m ρ c _ (mem_args 10)
  have h3 : V9 m ρ c main_v18 = shapeCast S3x1 (a11 m c) shapeCasts_S3_S3x1 := by
    refine (at_v18 (W8 m ρ c)).trans ?_
    rw [W8_args m ρ c main_arg11 (mem_args 11)]
  rw [h1, h2, h3]
  funext i
  refine (layer4_eq (a0 m c) (a2 m c) (a3 m c) (a4 m c) (a5 m c) (a6 m c) (a7 m c) (a8 m c) (a9 m c) (a10 m c) (a11 m c) (i 0) (i 1) (i 2)).trans ?_
  exact congrArg _ (eq_ix3 i).symm

/-- The result array: sample by sample, the voxel region's block of the coordinates and of the values. -/
theorem v21 : W12 m ρ c (Proc.devRef .tc main_v21) = fun i : S16x1x128x128x128.Idx =>
    out5_2 (sample (coords m c) (i 0)) (shapeCast S1x1920 (a1 m c) shapeCasts_S1x1x16x120_S1x1920)
      (ix5 0 (i 1) (i 2) (i 3) (i 4)) := by
  refine (W12_arr m ρ c 2).trans ((arr5 (V11 m ρ) c).trans ?_)
  have h1 : V11 m ρ c main_v19 = coords m c :=
    (W11_of m ρ c main_v19 (by decide +kernel)).trans (v19 m ρ c)
  have h2 : V11 m ρ c main_v20 = shapeCast S1x1920 (a1 m c) shapeCasts_S1x1x16x120_S1x1920 := by
    refine (at_v20 (W10 m ρ c)).trans ?_
    rw [W10_args m ρ c main_arg1 (mem_args 1)]
  rw [h1, h2]
  rfl

end Cert.Proof.KCoord

end
-- ==== Proof.KVox.lean ====
/-
  What the voxel region's body leaves in one sample's block: its 128 stores are one function of the slice they store, and
  that function is read at an index.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.KVox

open Cert.KernelIdeal Cert.KernelIdeal.Gen
open Idealize.ShloMosaic Idealize.SL.Sem

section Pieces

variable {F : FTy → Type} [FloatOps F] [Named F]

/-- Row `r` of the z profile, on every row. -/
def zrow (pzt : FVec F S128x1920 .bf16) (r : Nat) (h : S128x1920.Slices ![r, 0] S1x1920) : FVec F S128x1920 .bf16 :=
  broadcastTo S128x1920 (extractStridedSlice S1x1920 ![r, 0] pzt h) broadcasts_S1x1920_S128x1920

theorem slices_row (r : Nat) (h : r < 128) : S128x1920.Slices ![r, 0] S1x1920 :=
  ⟨rfl, fun a => match a with
    | ⟨0, _⟩ => Nat.succ_le_of_lt h
    | ⟨1, _⟩ => Nat.le_refl 1920⟩

theorem slices_half (h : Nat) (hh : h < 2) : S256x256.Slices ![0, 128 * h] S256x128 :=
  ⟨rfl, fun a => match a with
    | ⟨0, _⟩ => Nat.le_refl 256
    | ⟨1, _⟩ => (by omega : 128 * h + 128 ≤ 256)⟩

/-- The product of the weighted y profiles with the x profiles of slices `2 j` and `2 j + 1`, one above the other. -/
def pair (pxt pzt : FVec F S128x1920 .bf16) (wm : FVec F S256x1920 .bf16) (j : Fin 64) : FVec F S256x256 .f32 :=
  matmul dot_S256x1920_S256x1920_S256x256_1_1_0_0_n_n none wm
    (concatenate S256x1920 0
      [⟨S128x1920, mulf pxt (zrow pzt (2 * j.val) (slices_row _ (by omega)))⟩,
       ⟨S128x1920, mulf pxt (zrow pzt (2 * j.val + 1) (slices_row _ (by omega)))⟩]
      concatenates_S128x1920_S128x1920_S256x1920_d0)
    (constant S256x256 .f32 0x00000000#32)

/-- The slice `2 j + h` the body stores: the weighted sums over the sums of weights. -/
def slice (pxt pzt : FVec F S128x1920 .bf16) (wm : FVec F S256x1920 .bf16) (j : Fin 64) (h : Fin 2) :
    FVec F S1x1x1x128x128 .f32 :=
  shapeCast S1x1x1x128x128
    (divf
      (extractStridedSlice S128x128 ![0, 0]
        (extractStridedSlice S256x128 ![0, 128 * h.val] (pair pxt pzt wm j) (slices_half _ h.isLt))
        slices_S256x128_o0_0_S128x128)
      (addf
        (extractStridedSlice S128x128 ![128, 0]
          (extractStridedSlice S256x128 ![0, 128 * h.val] (pair pxt pzt wm j) (slices_half _ h.isLt))
          slices_S256x128_o128_0_S128x128)
        (broadcast S128x128 (Scalar.ofBits .f32 0x3A83126F#32))))
    shapeCasts_S128x128_S1x1x1x128x128

theorem inb_slice (k : Fin 128) (a : Fin 5) : ![0, 0, k.val, 0, 0] a + S1x1x1x128x128.size a ≤ S1x1x128x128x128.size a :=
  match a with
  | ⟨0, _⟩ => Nat.le_refl 1
  | ⟨1, _⟩ => Nat.le_refl 1
  | ⟨2, _⟩ => Nat.succ_le_of_lt k.isLt
  | ⟨3, _⟩ => Nat.le_refl 128
  | ⟨4, _⟩ => Nat.le_refl 128

/-- Store number `k`: slice `k` of the block. -/
def store (pxt pzt : FVec F S128x1920 .bf16) (wm : FVec F S256x1920 .bf16) (k : Fin 128) :
    View.Piece (Elt F) S1x1x128x128x128 .f32 :=
  ⟨Rect.unit (s := S1x1x128x128x128) ![0, 0, k.val, 0, 0] S1x1x1x128x128.size (inb_slice k),
   slice pxt pzt wm ⟨k.val / 2, by omega⟩ ⟨k.val % 2, by omega⟩⟩

/-- The stores, last first. -/
def order : List (Fin 128) :=
  [127, 126, 125, 124, 123, 122, 121, 120, 119, 118, 117, 116, 115, 114, 113, 112, 111, 110, 109, 108, 107, 106,
    105, 104, 103, 102, 101, 100, 99, 98, 97, 96, 95, 94, 93, 92, 91, 90, 89, 88, 87, 86, 85, 84, 83, 82, 81, 80,
    79, 78, 77, 76, 75, 74, 73, 72, 71, 70, 69, 68, 67, 66, 65, 64, 63, 62, 61, 60, 59, 58, 57, 56, 55, 54, 53,
    52, 51, 50, 49, 48, 47, 46, 45, 44, 43, 42, 41, 40, 39, 38, 37, 36, 35, 34, 33, 32, 31, 30, 29, 28, 27, 26,
    25, 24, 23, 22, 21, 20, 19, 18, 17, 16, 15, 14, 13, 12, 11, 10, 9, 8, 7, 6, 5, 4, 3, 2, 1, 0]

theorem mem_order (k : Fin 128) : k ∈ order := by revert k; decide +kernel

/-- The body's block is its stores. -/
theorem out_eq (x0 : Vec F S1x3x1920 .f32) (x1 : Vec F S1x1920 .f32) :
    out5_2 x0 x1 = View.canon (order.map (store (k5_pay316 x0 x1) (k5_pay325 x0 x1) (k5_pay327 x0 x1))) := by
  rfl

end Pieces

section Read

/-- The product at row `r` and column `128 h + x`: over the sample's points, the weighted y profile times the x profile
    times the z profile of slice `2 j + h`. -/
theorem pair_apply (pxt pzt : FVec Ideal S128x1920 .bf16) (wm : FVec Ideal S256x1920 .bf16) (j : Fin 64) (h : Fin 2)
    (r : Fin 256) (x : Fin 128) :
    pair pxt pzt wm j (ix2 r (⟨128 * h.val + x.val, by omega⟩ : Fin 256))
      = ∑ n : Fin 1920, wm (ix2 r n) * (pxt (ix2 x n) * pzt (ix2 (⟨2 * j.val + h.val, by omega⟩ : Fin 128) n)) := by
  fin_cases h <;> pointwise [pair, zrow] <;> simp

theorem slice_apply (pxt pzt : FVec Ideal S128x1920 .bf16) (wm : FVec Ideal S256x1920 .bf16) (j : Fin 64) (h : Fin 2)
    (y x : Fin 128) :
    slice pxt pzt wm j h (ix5 (0 : Fin 1) (0 : Fin 1) (0 : Fin 1) y x)
      = Ideal.div
          (∑ n : Fin 1920, wm (ix2 (⟨y.val, by omega⟩ : Fin 256) n)
            * (pxt (ix2 x n) * pzt (ix2 (⟨2 * j.val + h.val, by omega⟩ : Fin 128) n)))
          ((∑ n : Fin 1920, wm (ix2 (⟨128 + y.val, by omega⟩ : Fin 256) n)
            * (pxt (ix2 x n) * pzt (ix2 (⟨2 * j.val + h.val, by omega⟩ : Fin 128) n)))
            + Scalar.ofBits (F := Ideal) .f32 0x3A83126F#32) := by
  rw [← pair_apply, ← pair_apply]
  unfold slice
  pointwise

/-- The block at an index. -/
theorem out_apply (x0 : Vec Ideal S1x3x1920 .f32) (x1 : Vec Ideal S1x1920 .f32) (z y x : Fin 128) :
    out5_2 x0 x1 (ix5 (0 : Fin 1) (0 : Fin 1) z y x)
      = Ideal.div
          (∑ n : Fin 1920, k5_pay327 x0 x1 (ix2 (⟨y.val, by omega⟩ : Fin 256) n)
            * (k5_pay316 x0 x1 (ix2 x n) * k5_pay325 x0 x1 (ix2 z n)))
          ((∑ n : Fin 1920, k5_pay327 x0 x1 (ix2 (⟨128 + y.val, by omega⟩ : Fin 256) n)
            * (k5_pay316 x0 x1 (ix2 x n) * k5_pay325 x0 x1 (ix2 z n)))
            + Scalar.ofBits (F := Ideal) .f32 0x3A83126F#32) := by
  rw [out_eq]
  let G : S1x1x128x128x128.Idx → EReal := fun i =>
    Ideal.div
      (∑ n : Fin 1920, k5_pay327 x0 x1 (ix2 (⟨(i 3).val, by have : (i 3).val < 128 := (i 3).isLt; omega⟩ : Fin 256) n)
        * (k5_pay316 x0 x1 (ix2 (i 4 : Fin 128) n) * k5_pay325 x0 x1 (ix2 (i 2 : Fin 128) n)))
      ((∑ n : Fin 1920, k5_pay327 x0 x1 (ix2 (⟨128 + (i 3).val, by have : (i 3).val < 128 := (i 3).isLt; omega⟩ : Fin 256) n)
        * (k5_pay316 x0 x1 (ix2 (i 4 : Fin 128) n) * k5_pay325 x0 x1 (ix2 (i 2 : Fin 128) n)))
        + Scalar.ofBits (F := Ideal) .f32 0x3A83126F#32)
  refine View.canon_apply_of_pieces (S := S1x1x128x128x128) (e := .f32) (Val := Elt Ideal) G _ ?_ (ix5 (0 : Fin 1) (0 : Fin 1) z y x) ?_
  · intro p hp
    obtain ⟨k, -, rfl⟩ := List.mem_map.mp hp
    intro t
    have ht : t = ix5 (0 : Fin 1) (0 : Fin 1) (0 : Fin 1) (t 3 : Fin 128) (t 4 : Fin 128) := by
      funext a
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl
      | ⟨4, _⟩ => rfl
    have he : (store (k5_pay316 x0 x1) (k5_pay325 x0 x1) (k5_pay327 x0 x1) k).1.emb t
        = ix5 (0 : Fin 1) (0 : Fin 1) k (t 3 : Fin 128) (t 4 : Fin 128) := by
      funext a
      match a with
      | ⟨0, _⟩ => exact Subsingleton.elim (α := Fin 1) _ _
      | ⟨1, _⟩ => exact Subsingleton.elim (α := Fin 1) _ _
      | ⟨2, _⟩ =>
        refine Fin.ext ?_
        have : (t 2).val < 1 := (t 2).isLt
        show k.val + 1 * (t 2).val = k.val
        omega
      | ⟨3, _⟩ => exact Fin.ext (by show 0 + 1 * (t 3).val = (t 3).val; omega)
      | ⟨4, _⟩ => exact Fin.ext (by show 0 + 1 * (t 4).val = (t 4).val; omega)
    rw [he]
    rw [ht]
    refine (slice_apply _ _ _ _ _ _ _).trans ?_
    have hk : (⟨2 * (k.val / 2) + k.val % 2, by omega⟩ : Fin 128) = k := Fin.ext (by show 2 * (k.val / 2) + k.val % 2 = k.val; omega)
    show Ideal.div _ _ = Ideal.div _ _
    rw [hk]
    rfl
  · refine ⟨_, List.mem_map.mpr ⟨z, mem_order z, rfl⟩, ?_⟩
    refine (Rect.mem_set_unit (inb := inb_slice z)).mpr ?_
    intro a
    match a with
    | ⟨0, _⟩ => exact ⟨Nat.le_refl 0, Nat.zero_lt_one⟩
    | ⟨1, _⟩ => exact ⟨Nat.le_refl 0, Nat.zero_lt_one⟩
    | ⟨2, _⟩ => exact ⟨Nat.le_refl _, Nat.lt_succ_self _⟩
    | ⟨3, _⟩ => exact ⟨Nat.zero_le _, (by show y.val < 0 + 128; omega)⟩
    | ⟨4, _⟩ => exact ⟨Nat.zero_le _, (by show x.val < 0 + 128; omega)⟩

end Read

end Cert.Proof.KVox

end
-- ==== Proof.Hat.lean ====
/-
  The mathematics of one axis, on the reals: the two weights a point gives to the voxels around it, the average of three
  voxels with zeros beyond the grid, and three such averages as one filter of seven taps.
-/
module

public import Idealize.ShloMosaic.Lib.Pointwise

@[expose] public section

noncomputable section

namespace Cert.Proof.Hat

/-- A coordinate in voxels. -/
def vox (c : ℝ) : ℝ := (c + 1) * 64 - 1 / 2

/-- The weight a point at `c` gives to voxel `j`: none beyond the grid. -/
def hat (c : ℝ) (j : ℤ) : ℝ :=
  if 0 ≤ j ∧ j ≤ 127 then
    if j = ⌊vox c⌋ then 1 - (vox c - ⌊vox c⌋) else if j = ⌊vox c⌋ + 1 then vox c - ⌊vox c⌋ else 0
  else 0

/-- The filter of seven taps that three averages of three make. -/
def taps (h : ℤ → ℝ) (i : ℤ) : ℝ :=
  (h (i + 3) + 3 * h (i + 2) + 6 * h (i + 1) + 7 * h i + 6 * h (i - 1) + 3 * h (i - 2) + h (i - 3)) / 27

/-- The array with zeros beyond the grid. -/
def clip (h : ℤ → ℝ) (j : ℤ) : ℝ := if 0 ≤ j ∧ j ≤ 127 then h j else 0

/-- The average of three voxels, zeros beyond the grid. -/
def pool (h : ℤ → ℝ) (i : ℤ) : ℝ := (clip h (i - 1) + clip h i + clip h (i + 1)) / 3

theorem hat_out (c : ℝ) (j : ℤ) (h : ¬ (0 ≤ j ∧ j ≤ 127)) : hat c j = 0 := if_neg h

theorem clip_in (h : ℤ → ℝ) (j : ℤ) (h0 : 0 ≤ j) (h1 : j ≤ 127) : clip h j = h j := if_pos ⟨h0, h1⟩

theorem clip_of_zero (h : ℤ → ℝ) (hz : ∀ j, ¬ (0 ≤ j ∧ j ≤ 127) → h j = 0) : clip h = h := by
  funext j
  unfold clip
  split_ifs with hj
  · rfl
  · exact (hz j hj).symm

/-- Three averages are the seven taps where no average brings back what the one before it lost beyond a face. -/
theorem pool_three (h : ℤ → ℝ) (hz : ∀ j, ¬ (0 ≤ j ∧ j ≤ 127) → h j = 0) (i : ℤ) (i0 : 0 ≤ i) (i1 : i ≤ 127)
    (hlo : ∀ j, j + i < 2 → h j = 0) (hhi : ∀ j, 252 < j + i → h j = 0) :
    pool (pool (pool h)) i = taps h i := by
  have e1 : ∀ j, pool h j = (h (j - 1) + h j + h (j + 1)) / 3 := fun j => by
    unfold pool; rw [clip_of_zero h hz]
  have fin : (∀ j, i - 1 ≤ j → j ≤ i + 1 → clip (pool (pool h)) j = pool (pool h) j) →
      (∀ j, i - 2 ≤ j → j ≤ i + 2 → clip (pool h) j = pool h j) → pool (pool (pool h)) i = taps h i := by
    intro h2 h1
    have e2 : ∀ j, i - 1 ≤ j → j ≤ i + 1 → pool (pool h) j
        = ((h (j - 1 - 1) + h (j - 1) + h (j - 1 + 1)) / 3 + (h (j - 1) + h j + h (j + 1)) / 3
          + (h (j + 1 - 1) + h (j + 1) + h (j + 1 + 1)) / 3) / 3 := fun j ha hb => by
      rw [← e1, ← e1, ← e1, ← h1 (j - 1) (by omega) (by omega), ← h1 j (by omega) (by omega),
        ← h1 (j + 1) (by omega) (by omega)]
      rfl
    have e3 : pool (pool (pool h)) i
        = (pool (pool h) (i - 1) + pool (pool h) i + pool (pool h) (i + 1)) / 3 := by
      rw [← h2 (i - 1) (by omega) (by omega), ← h2 i (by omega) (by omega), ← h2 (i + 1) (by omega) (by omega)]
      rfl
    rw [e3, e2 _ (by omega) (by omega), e2 _ (by omega) (by omega), e2 _ (by omega) (by omega)]
    unfold taps
    rw [show i - 1 - 1 - 1 = i - 3 by ring, show i - 1 - 1 = i - 2 by ring, show i - 2 + 1 = i - 1 by ring,
      show i - 1 + 1 = i by ring, show i + 1 - 1 = i by ring, show i + 1 + 1 = i + 2 by ring,
      show i + 2 - 1 = i + 1 by ring, show i + 2 + 1 = i + 3 by ring]
    ring
  have zero : ∀ j, ¬ (0 ≤ j ∧ j ≤ 127) ∨ j + i < 2 ∨ 252 < j + i → h j = 0 := fun j hj => by
    rcases hj with hj | hj | hj
    · exact hz j hj
    · exact hlo j hj
    · exact hhi j hj
  have z1 : ∀ j, (∀ k, j - 1 ≤ k → k ≤ j + 1 → ¬ (0 ≤ k ∧ k ≤ 127) ∨ k + i < 2 ∨ 252 < k + i) → pool h j = 0 :=
    fun j hj => by
      rw [e1, zero (j - 1) (hj _ (by omega) (by omega)), zero j (hj _ (by omega) (by omega)),
        zero (j + 1) (hj _ (by omega) (by omega))]
      norm_num
  have c1 : ∀ j, i - 2 ≤ j → j ≤ i + 2 → clip (pool h) j = pool h j := fun j ha hb => by
    by_cases hj : 0 ≤ j ∧ j ≤ 127
    · exact if_pos hj
    · rw [z1 j fun k _ _ => by omega]
      exact if_neg hj
  refine fin (fun j ha hb => ?_) c1
  by_cases hj : 0 ≤ j ∧ j ≤ 127
  · exact if_pos hj
  · have z : ∀ k, j - 1 ≤ k → k ≤ j + 1 → clip (pool h) k = 0 := fun k h1 h2 => by
      rw [c1 k (by omega) (by omega)]
      exact z1 k fun l _ _ => by omega
    rw [show pool (pool h) j = (clip (pool h) (j - 1) + clip (pool h) j + clip (pool h) (j + 1)) / 3 from rfl,
      z (j - 1) (by omega) (by omega), z j (by omega) (by omega), z (j + 1) (by omega) (by omega)]
    unfold clip
    rw [if_neg hj]
    norm_num

theorem floor_bounds (c : ℝ) (h0 : -1 ≤ c) (h1 : c ≤ 1) : -1 ≤ ⌊vox c⌋ ∧ ⌊vox c⌋ ≤ 127 := by
  unfold vox
  constructor
  · exact Int.le_floor.mpr (by push_cast; linarith)
  · exact Int.le_of_lt_add_one (Int.floor_lt.mpr (by push_cast; linarith))

/-- A point gives nothing to the voxels a whole voxel or more below it. -/
theorem hat_below (c : ℝ) (j : ℤ) (h : (j : ℝ) + 1 ≤ vox c) : hat c j = 0 := by
  have a : j + 1 ≤ ⌊vox c⌋ := Int.le_floor.mpr (by push_cast; linarith)
  unfold hat
  rw [if_neg (show ¬ j = ⌊vox c⌋ by omega), if_neg (show ¬ j = ⌊vox c⌋ + 1 by omega), ite_self]

/-- A point gives nothing to the voxels a whole voxel or more above it. -/
theorem hat_above (c : ℝ) (j : ℤ) (h : vox c ≤ (j : ℝ) - 1) : hat c j = 0 := by
  have a : ⌊vox c⌋ ≤ j - 1 := by
    have := (Int.floor_le (vox c)).trans h
    exact_mod_cast this
  unfold hat
  rw [if_neg (show ¬ j = ⌊vox c⌋ by omega)]
  split_ifs with h1 h2
  · have := Int.floor_le (vox c)
    have e : (j : ℝ) = (⌊vox c⌋ : ℝ) + 1 := by exact_mod_cast h2
    linarith
  · rfl
  · rfl

end Cert.Proof.Hat

end
-- ==== Proof.KProf.lean ====
/-
  The seven-tap profile of one coordinate row, as the voxel region's body computes it on each of the three axes, and what
  it is at an index.
-/
module

public import proofs.«01_k».proof.Proof.Gen.KernelIdeal.Frame
public import Idealize.ShloMosaic.Lib.Pipeline.ValueKit
public import Idealize.ShloMosaic.Lib.Pointwise
public import proofs.«01_k».proof.Proof.Hat

@[expose] public section

set_option maxRecDepth 16384

noncomputable section

namespace Cert.Proof.KProf

open Cert.KernelIdeal Cert.KernelIdeal.Gen
open Idealize.ShloMosaic Idealize.SL.Sem
open Cert.Proof.Hat

section Spelling

variable {F : FTy → Type} [FloatOps F] [Named F]

/-- A scalar on every point. -/
def lit (b : BitVec 32) : FVec F S1x1920 .f32 := broadcast S1x1920 (Scalar.ofBits .f32 b)

/-- A scalar word on every point. -/
def word (b : BitVec 32) : IVec S1x1920 32 := broadcast S1x1920 b

/-- The coordinate in voxels. -/
def vox (row : Vec F S1x1x1920 .f32) : FVec F S1x1920 .f32 :=
  subf (mulf (addf (shapeCast S1x1920 row shapeCasts_S1x1x1920_S1x1920) (lit 0x3F800000#32)) (lit 0x42800000#32))
    (lit 0x3F000000#32)

/-- How far the point lies beyond its lower corner. -/
def frac (row : Vec F S1x1x1920 .f32) : FVec F S1x1920 .f32 := subf (vox row) (floor (vox row))

/-- The lower corner. -/
def low (row : Vec F S1x1x1920 .f32) : IVec S1x1920 32 := fptosi 32 (floor (vox row))

/-- The weight of the lower corner, where it is in the grid. -/
def wlow (row : Vec F S1x1x1920 .f32) : FVec F S1x1920 .f32 :=
  select (andi (cmpi .sge (low row) (word 0#32)) (cmpi .sle (low row) (word 127#32)))
    (subf (lit 0x3F800000#32) (frac row)) (lit 0x00000000#32)

/-- The weight of the upper corner, where it is in the grid. -/
def whigh (row : Vec F S1x1x1920 .f32) : FVec F S1x1920 .f32 :=
  select (andi (cmpi .sge (low row) (word 4294967295#32)) (cmpi .sle (low row) (word 126#32)))
    (frac row) (lit 0x00000000#32)

/-- A named weight on every point. -/
def wt (name : String) (b : BitVec 32) : FVec F S1x1920 .f32 := broadcast S1x1920 (Named.named κ name b)

def w1 : FVec F S1x1920 .f32 := wt "w1" 0x3D17B426#32
def w3 : FVec F S1x1920 .f32 := wt "w3" 0x3DE38E39#32
def w6 : FVec F S1x1920 .f32 := wt "w6" 0x3E638E39#32
def w7 : FVec F S1x1920 .f32 := wt "w7" 0x3E84BDA1#32

/-- Put the row `v` where the voxel is the lower corner moved by `d`. -/
def place (row : Vec F S1x1x1920 .f32) (d : BitVec 32) (v : FVec F S1x1920 .f32) (acc : FVec F S128x1920 .f32) :
    FVec F S128x1920 .f32 :=
  select
    (cmpi .eq (iota .tc S128x1920 32 [0] iota_S128x1920_d0_w32)
      (broadcastTo S128x1920 (addi (low row) (word d)) broadcasts_S1x1920_S128x1920))
    (broadcastTo S128x1920 (shapeCast S1x1920 v shapeCasts_S1x1920_S1x1920) broadcasts_S1x1920_S128x1920) acc

/-- The weights of the lower and of the upper corner combined. -/
def mix (row : Vec F S1x1x1920 .f32) (u v : FVec F S1x1920 .f32) : FVec F S1x1920 .f32 :=
  addf (mulf (wlow row) u) (mulf (whigh row) v)

/-- The profile. -/
def prof (row : Vec F S1x1x1920 .f32) : FVec F S128x1920 .f32 :=
  place row 4#32 (addf (lit 0x00000000#32) (mulf (whigh row) w1)) <|
  place row 3#32 (mix row w1 w3) <|
  place row 2#32 (mix row w3 w6) <|
  place row 1#32 (mix row w6 w7) <|
  place row 0#32 (mix row w7 w6) <|
  place row 4294967295#32 (mix row w6 w3) <|
  place row 4294967294#32 (mix row w3 w1) <|
  place row 4294967293#32 (mulf (wlow row) w1) <|
  broadcast S128x1920 (Scalar.ofBits .f32 0x00000000#32)

theorem x_eq (x0 : Vec F S1x3x1920 .f32) (x1 : Vec F S1x1920 .f32) :
    k5_pay316 x0 x1 = truncf .bf16 (prof (View.ld x0 r5_0)) bitsLt_bf16_f32 := by
  rfl

theorem y_eq (x0 : Vec F S1x3x1920 .f32) (x1 : Vec F S1x1920 .f32) : k5_pay321 x0 x1 = prof (View.ld x0 r5_1) := by
  rfl

theorem z_eq (x0 : Vec F S1x3x1920 .f32) (x1 : Vec F S1x1920 .f32) :
    k5_pay325 x0 x1 = truncf .bf16 (prof (View.ld x0 r5_2)) bitsLt_bf16_f32 := by
  rfl

end Spelling

section Words

/-- Two whole numbers that fit in a word are equal when their words are. -/
theorem ofInt_inj (a b : ℤ) (ha : -1000 ≤ a ∧ a ≤ 1000) (hb : -1000 ≤ b ∧ b ≤ 1000) :
    BitVec.ofInt 32 a = BitVec.ofInt 32 b ↔ a = b := by
  refine ⟨fun h => ?_, fun h => by rw [h]⟩
  have := congrArg BitVec.toInt h
  rw [BitVec.toInt_ofInt, BitVec.toInt_ofInt, Int.bmod_eq_of_le (by norm_num; omega) (by norm_num; omega),
    Int.bmod_eq_of_le (by norm_num; omega) (by norm_num; omega)] at this
  exact this

theorem toInt_ofInt (a : ℤ) (ha : -1000 ≤ a ∧ a ≤ 1000) : (BitVec.ofInt 32 a).toInt = a := by
  rw [BitVec.toInt_ofInt, Int.bmod_eq_of_le (by norm_num; omega) (by norm_num; omega)]

/-- A truth value's bit is set when it is true. -/
theorem ofBool_eq_one (b : Bool) : (BitVec.ofBool b = 1#1) ↔ b = true := by cases b <;> decide

/-- Two truth values' bits joined. -/
theorem and_eq_one (b b' : Bool) : (BitVec.ofBool b &&& BitVec.ofBool b' = 1#1) ↔ (b = true ∧ b' = true) := by
  cases b <;> cases b' <;> decide

end Words

section Read

variable (row : Vec Ideal S1x1x1920 .f32) (n : Fin 1920) (c : ℝ)

theorem place_apply (d : BitVec 32) (v : FVec Ideal S1x1920 .f32) (acc : FVec Ideal S128x1920 .f32) (i : Fin 128)
    (n : Fin 1920) :
    place row d v acc (ix2 i n)
      = if BitVec.ofNat 32 i.val = low row (ix2 (0 : Fin 1) n) + d then v (ix2 (0 : Fin 1) n) else acc (ix2 i n) := by
  pointwise [place, word]
  simp only [Scalar.select, IntOp.cmpi, IntOp.addi, show (1 : BitVec 1) = 1#1 from rfl, ofBool_eq_one, beq_iff_eq]

theorem vox_real (h : row (ix3 (0 : Fin 1) (0 : Fin 1) n) = ((c : ℝ) : EReal)) :
    Cert.Proof.KProf.vox row (ix2 (0 : Fin 1) n) = ((Hat.vox c : ℝ) : EReal) := by
  pointwise [Cert.Proof.KProf.vox, lit]
  rw [h]
  have a : Ideal.ofBits .f32 1115684864#32 = ((64 : ℝ) : EReal) := by
    simp [Ideal.ofBits, Ideal.ieee, -EReal.coe_mul]; norm_num
  have b : Ideal.ofBits .f32 1056964608#32 = ((1 / 2 : ℝ) : EReal) := by
    simp [Ideal.ofBits, Ideal.ieee, -EReal.coe_mul]; norm_num
  rw [a, b, ← EReal.coe_one, ← EReal.coe_add, ← EReal.coe_mul, ← EReal.coe_sub]
  rfl

theorem frac_real (h : row (ix3 (0 : Fin 1) (0 : Fin 1) n) = ((c : ℝ) : EReal)) :
    frac row (ix2 (0 : Fin 1) n) = ((Hat.vox c - ⌊Hat.vox c⌋ : ℝ) : EReal) := by
  pointwise [frac]
  rw [vox_real row n c h]
  rfl

theorem low_real (h : row (ix3 (0 : Fin 1) (0 : Fin 1) n) = ((c : ℝ) : EReal)) (h0 : -1 ≤ c) (h1 : c ≤ 1) :
    low row (ix2 (0 : Fin 1) n) = BitVec.ofInt 32 ⌊Hat.vox c⌋ := by
  pointwise [low]
  rw [vox_real row n c h]
  obtain ⟨a, b⟩ := floor_bounds c h0 h1
  show BitVec.ofInt 32 (max _ (min _ (if (0 : ℝ) ≤ ((⌊Hat.vox c⌋ : ℤ) : ℝ) then ⌊((⌊Hat.vox c⌋ : ℤ) : ℝ)⌋ else ⌈((⌊Hat.vox c⌋ : ℤ) : ℝ)⌉))) = _
  rw [Int.floor_intCast, Int.ceil_intCast, ite_self]
  congr 1
  norm_num
  omega

theorem hat_low (c : ℝ) : hat c ⌊Hat.vox c⌋
    = if 0 ≤ ⌊Hat.vox c⌋ ∧ ⌊Hat.vox c⌋ ≤ 127 then 1 - (Hat.vox c - ⌊Hat.vox c⌋) else 0 := by
  unfold hat; rw [if_pos rfl]

theorem hat_high (c : ℝ) : hat c (⌊Hat.vox c⌋ + 1)
    = if 0 ≤ ⌊Hat.vox c⌋ + 1 ∧ ⌊Hat.vox c⌋ + 1 ≤ 127 then Hat.vox c - ⌊Hat.vox c⌋ else 0 := by
  unfold hat
  split_ifs <;> first | rfl | omega

theorem hat_other (c : ℝ) (j : ℤ) (h : j ≠ ⌊Hat.vox c⌋) (h' : j ≠ ⌊Hat.vox c⌋ + 1) : hat c j = 0 := by
  unfold hat; rw [if_neg h, if_neg h', ite_self]

theorem wlow_real (h : row (ix3 (0 : Fin 1) (0 : Fin 1) n) = ((c : ℝ) : EReal)) (h0 : -1 ≤ c) (h1 : c ≤ 1) :
    wlow row (ix2 (0 : Fin 1) n) = ((hat c ⌊Hat.vox c⌋ : ℝ) : EReal) := by
  obtain ⟨a, b⟩ := floor_bounds c h0 h1
  pointwise [wlow, word, lit]
  rw [low_real row n c h h0 h1, frac_real row n c h, hat_low]
  simp only [Scalar.select, IntOp.cmpi, IntOp.andi, BitVec.sle, toInt_ofInt _ (show -1000 ≤ ⌊Hat.vox c⌋ ∧ ⌊Hat.vox c⌋ ≤ 1000 by omega),
    and_eq_one, decide_eq_true_eq, show (0#32).toInt = 0 from rfl, show (127#32).toInt = 127 from rfl, show (1 : BitVec 1) = 1#1 from rfl]
  split_ifs
  · rw [← EReal.coe_one, ← EReal.coe_sub]
  · rfl

theorem whigh_real (h : row (ix3 (0 : Fin 1) (0 : Fin 1) n) = ((c : ℝ) : EReal)) (h0 : -1 ≤ c) (h1 : c ≤ 1) :
    whigh row (ix2 (0 : Fin 1) n) = ((hat c (⌊Hat.vox c⌋ + 1) : ℝ) : EReal) := by
  obtain ⟨a, b⟩ := floor_bounds c h0 h1
  pointwise [whigh, word, lit]
  rw [low_real row n c h h0 h1, frac_real row n c h, hat_high]
  simp only [Scalar.select, IntOp.cmpi, IntOp.andi, BitVec.sle, toInt_ofInt _ (show -1000 ≤ ⌊Hat.vox c⌋ ∧ ⌊Hat.vox c⌋ ≤ 1000 by omega),
    and_eq_one, decide_eq_true_eq, show (4294967295#32).toInt = -1 from rfl, show (126#32).toInt = 126 from rfl, show (1 : BitVec 1) = 1#1 from rfl]
  split_ifs <;> first | rfl | omega

theorem named_w1 : (Named.named (F := Ideal) (φ := .f32) κ "w1" 0x3D17B426#32 : EReal) = ((1 / 27 : ℝ) : EReal) :=
  IdealRules.named_const.ideal_named_scalar _ _ _ _ rfl
theorem named_w3 : (Named.named (F := Ideal) (φ := .f32) κ "w3" 0x3DE38E39#32 : EReal) = ((1 / 9 : ℝ) : EReal) :=
  IdealRules.named_const.ideal_named_scalar _ _ _ _ rfl
theorem named_w6 : (Named.named (F := Ideal) (φ := .f32) κ "w6" 0x3E638E39#32 : EReal) = ((2 / 9 : ℝ) : EReal) :=
  IdealRules.named_const.ideal_named_scalar _ _ _ _ rfl
theorem named_w7 : (Named.named (F := Ideal) (φ := .f32) κ "w7" 0x3E84BDA1#32 : EReal) = ((7 / 27 : ℝ) : EReal) :=
  IdealRules.named_const.ideal_named_scalar _ _ _ _ rfl

theorem mix_real (h : row (ix3 (0 : Fin 1) (0 : Fin 1) n) = ((c : ℝ) : EReal)) (h0 : -1 ≤ c) (h1 : c ≤ 1)
    (u v : FVec Ideal S1x1920 .f32) (p q : ℝ) (hu : u (ix2 (0 : Fin 1) n) = (p : EReal))
    (hv : v (ix2 (0 : Fin 1) n) = (q : EReal)) :
    mix row u v (ix2 (0 : Fin 1) n)
      = ((hat c ⌊Hat.vox c⌋ * p + hat c (⌊Hat.vox c⌋ + 1) * q : ℝ) : EReal) := by
  pointwise [mix]
  rw [wlow_real row n c h h0 h1, whigh_real row n c h h0 h1, hu, hv, ← EReal.coe_mul, ← EReal.coe_mul, ← EReal.coe_add]

theorem place_real (h : row (ix3 (0 : Fin 1) (0 : Fin 1) n) = ((c : ℝ) : EReal)) (h0 : -1 ≤ c) (h1 : c ≤ 1)
    (dw : BitVec 32) (d : ℤ) (hd : dw = BitVec.ofInt 32 d) (d0 : -3 ≤ d) (d1 : d ≤ 4)
    (v : FVec Ideal S1x1920 .f32) (acc : FVec Ideal S128x1920 .f32) (p q : ℝ) (i : Fin 128)
    (hv : v (ix2 (0 : Fin 1) n) = (p : EReal)) (ha : acc (ix2 i n) = (q : EReal)) :
    place row dw v acc (ix2 i n) = ((if (i.val : ℤ) = ⌊Hat.vox c⌋ + d then p else q : ℝ) : EReal) := by
  obtain ⟨a, b⟩ := floor_bounds c h0 h1
  rw [place_apply, low_real row n c h h0 h1, hv, ha, hd, ← BitVec.ofInt_add, ← BitVec.ofInt_natCast]
  simp only [ofInt_inj (i.val : ℤ) (⌊Hat.vox c⌋ + d) (by omega) (by omega)]
  split_ifs <;> rfl

/-- The seven taps of the two weights, one tap at a time. -/
theorem taps_hat (c : ℝ) (i x : ℤ) (hx : x = ⌊Hat.vox c⌋) : taps (hat c) i
    = (if i = x + 4 then 0 + hat c (x + 1) * (1 / 27) else
       if i = x + 3 then hat c x * (1 / 27) + hat c (x + 1) * (1 / 9) else
       if i = x + 2 then hat c x * (1 / 9) + hat c (x + 1) * (2 / 9) else
       if i = x + 1 then hat c x * (2 / 9) + hat c (x + 1) * (7 / 27) else
       if i = x + 0 then hat c x * (7 / 27) + hat c (x + 1) * (2 / 9) else
       if i = x + -1 then hat c x * (2 / 9) + hat c (x + 1) * (1 / 9) else
       if i = x + -2 then hat c x * (1 / 9) + hat c (x + 1) * (1 / 27) else
       if i = x + -3 then hat c x * (1 / 27) else 0) := by
  have key : ∀ j, hat c j = if j = x then hat c x else if j = x + 1 then hat c (x + 1) else 0 := fun j => by
    split_ifs with a b
    · rw [a]
    · rw [b]
    · exact hat_other c j (hx ▸ a) (hx ▸ b)
  generalize hat c x = A at key ⊢
  generalize hat c (x + 1) = B at key ⊢
  unfold taps
  simp only [key]
  by_cases e4 : i = x + 4
  · simp (disch := omega) only [if_pos, if_neg]; ring
  by_cases e3 : i = x + 3
  · simp (disch := omega) only [if_pos, if_neg]; ring
  by_cases e2 : i = x + 2
  · simp (disch := omega) only [if_pos, if_neg]; ring
  by_cases e1 : i = x + 1
  · simp (disch := omega) only [if_pos, if_neg]; ring
  by_cases e0 : i = x + 0
  · simp (disch := omega) only [if_pos, if_neg]; ring
  by_cases f1 : i = x + -1
  · simp (disch := omega) only [if_pos, if_neg]; ring
  by_cases f2 : i = x + -2
  · simp (disch := omega) only [if_pos, if_neg]; ring
  by_cases f3 : i = x + -3
  · simp (disch := omega) only [if_pos, if_neg]; ring
  · simp (disch := omega) only [if_neg]; ring

/-- The profile of a point is the seven-tap filter of its two weights. -/
theorem prof_real (h : row (ix3 (0 : Fin 1) (0 : Fin 1) n) = ((c : ℝ) : EReal)) (h0 : -1 ≤ c) (h1 : c ≤ 1) (i : Fin 128) :
    prof row (ix2 i n) = ((taps (hat c) i.val : ℝ) : EReal) := by
  rw [taps_hat c _ _ rfl]
  have m1 : (w1 : FVec Ideal S1x1920 .f32) (ix2 (0 : Fin 1) n) = ((1 / 27 : ℝ) : EReal) := named_w1
  have m3 : (w3 : FVec Ideal S1x1920 .f32) (ix2 (0 : Fin 1) n) = ((1 / 9 : ℝ) : EReal) := named_w3
  have m6 : (w6 : FVec Ideal S1x1920 .f32) (ix2 (0 : Fin 1) n) = ((2 / 9 : ℝ) : EReal) := named_w6
  have m7 : (w7 : FVec Ideal S1x1920 .f32) (ix2 (0 : Fin 1) n) = ((7 / 27 : ℝ) : EReal) := named_w7
  have P := place_real row n c h h0 h1
  have M := mix_real row n c h h0 h1
  refine P _ 4 (by decide) (by decide) (by decide) _ _ _ _ i ?_ ?_
  · pointwise [lit]
    rw [whigh_real row n c h h0 h1, m1, ← EReal.coe_mul]
  refine P _ 3 (by decide) (by decide) (by decide) _ _ _ _ i (M _ _ _ _ m1 m3) ?_
  refine P _ 2 (by decide) (by decide) (by decide) _ _ _ _ i (M _ _ _ _ m3 m6) ?_
  refine P _ 1 (by decide) (by decide) (by decide) _ _ _ _ i (M _ _ _ _ m6 m7) ?_
  refine P _ 0 (by decide) (by decide) (by decide) _ _ _ _ i (M _ _ _ _ m7 m6) ?_
  refine P _ (-1) (by decide) (by decide) (by decide) _ _ _ _ i (M _ _ _ _ m6 m3) ?_
  refine P _ (-2) (by decide) (by decide) (by decide) _ _ _ _ i (M _ _ _ _ m3 m1) ?_
  refine P _ (-3) (by decide) (by decide) (by decide) _ _ _ _ i ?_ ?_
  · pointwise
    rw [wlow_real row n c h h0 h1, m1, ← EReal.coe_mul]
  · pointwise
    rfl

end Read

end Cert.Proof.KProf

end
-- ==== Proof.RefCorner.lean ====
/-
  The reference's corners at an index: the eight voxels around a point, their trilinear weights, whether they lie in the
  grid and their place in the flat grid, from the point's three coordinates.
-/
module

public import proofs.«01_k».proof.Proof.Gen.ReferenceIdeal.Read
public import proofs.«01_k».proof.Proof.KProf
public import Idealize.ShloMosaic.Lib.Pointwise

@[expose] public section

set_option maxRecDepth 16384

noncomputable section

namespace Cert.Proof.RefCorner

open Cert.ReferenceIdeal Cert.ReferenceIdeal.Read
open Idealize.ShloMosaic Idealize.SL.Sem
open Cert.Proof.Hat
open Cert.Proof.KProf (toInt_ofInt ofInt_inj ofBool_eq_one and_eq_one)

/-- Voxel `x` moved to the nearest one in the grid. -/
def near (x : ℤ) : ℤ := min 127 (max 0 x)

/-- The weight of corner `s` of a point at `c` on one axis. -/
def weight (c : ℝ) (s : Fin 2) : ℝ := if s.val = 1 then vox c - ⌊vox c⌋ else 1 - (vox c - ⌊vox c⌋)

/-- The corner's voxel. -/
def corner (c : ℝ) (s : Fin 2) : ℤ := ⌊vox c⌋ + s.val

theorem corner_bounds (c : ℝ) (h : -1 ≤ c ∧ c ≤ 1) (s : Fin 2) : -1 ≤ corner c s ∧ corner c s ≤ 128 := by
  obtain ⟨a, b⟩ := floor_bounds c h.1 h.2
  unfold corner
  omega

theorem ofBool_and (b b' : Bool) : BitVec.ofBool b &&& BitVec.ofBool b' = BitVec.ofBool (b && b') := by
  cases b <;> cases b' <;> decide

section Axis

variable (x0 : (⟨S16x2048, .f32⟩ : BufTy).Contents (Elt Ideal)) (x2 : (⟨S240x256, .f32⟩ : BufTy).Contents (Elt Ideal))
  (x3 : (⟨S240, .f32⟩ : BufTy).Contents (Elt Ideal)) (x4 : (⟨S64x2, .f32⟩ : BufTy).Contents (Elt Ideal))
  (x5 : (⟨S128, .f32⟩ : BufTy).Contents (Elt Ideal)) (x6 : (⟨S32x2, .f32⟩ : BufTy).Contents (Elt Ideal))
  (x7 : (⟨S64, .f32⟩ : BufTy).Contents (Elt Ideal)) (x8 : (⟨S16x4, .f32⟩ : BufTy).Contents (Elt Ideal))
  (x9 : (⟨S64, .f32⟩ : BufTy).Contents (Elt Ideal)) (x10 : (⟨S3x16, .f32⟩ : BufTy).Contents (Elt Ideal))
  (x11 : (⟨S3, .f32⟩ : BufTy).Contents (Elt Ideal))
  (c : Fin 16 → Fin 3 → Fin 1920 → ℝ)
  (hC : ∀ b d n, val_main_v91 x0 x2 x3 x4 x5 x6 x7 x8 x9 x10 x11 (ix3 b d n) = ((c b d n : ℝ) : EReal))
  (hc : ∀ b d n, -1 ≤ c b d n ∧ c b d n ≤ 1)

include hC

theorem p_at (b : Fin 16) (n : Fin 1920) (d : Fin 3) :
    val_main_v100 x0 x2 x3 x4 x5 x6 x7 x8 x9 x10 x11 (ix3 b n d) = ((vox (c b d n) : ℝ) : EReal) := by
  simp only [val_main_v100, val_main_v99, val_main_cst_17, val_main_v98, val_main_v97, val_main_cst_16, val_main_v96,
    val_main_v95, val_main_cst_15, val_main_v94, val_main_v93, val_main_cst_14, val_main_v92]
  pointwise
  rw [hC]
  have e1 : Ideal.ofBits .f32 1124073472#32 = ((128 : ℝ) : EReal) := by
    simp [Ideal.ofBits, Ideal.ieee, -EReal.coe_mul]; norm_num
  have e2 : Ideal.ofBits .f32 1056964608#32 = ((1 / 2 : ℝ) : EReal) := by
    simp [Ideal.ofBits, Ideal.ieee, -EReal.coe_mul]; norm_num
  rw [e1, e2, ← EReal.coe_one, ← EReal.coe_add, ← EReal.coe_mul, ← EReal.coe_sub, ← EReal.coe_mul]
  congr 1
  unfold vox
  ring

theorem floor_at (b : Fin 16) (n : Fin 1920) (d : Fin 3) :
    val_main_v101 x0 x2 x3 x4 x5 x6 x7 x8 x9 x10 x11 (ix3 b n d) = (((⌊vox (c b d n)⌋ : ℤ) : ℝ) : EReal) := by
  unfold val_main_v101
  pointwise
  rw [p_at x0 x2 x3 x4 x5 x6 x7 x8 x9 x10 x11 c hC]
  rfl

theorem frac_at (b : Fin 16) (n : Fin 1920) (d : Fin 3) :
    val_main_v102 x0 x2 x3 x4 x5 x6 x7 x8 x9 x10 x11 (ix3 b n d) = ((vox (c b d n) - ⌊vox (c b d n)⌋ : ℝ) : EReal) := by
  unfold val_main_v102
  pointwise
  rw [p_at x0 x2 x3 x4 x5 x6 x7 x8 x9 x10 x11 c hC, floor_at x0 x2 x3 x4 x5 x6 x7 x8 x9 x10 x11 c hC, ← EReal.coe_sub]

theorem weight_at (b : Fin 16) (n : Fin 1920) (d : Fin 3) (s : Fin 2) :
    val_main_v114 x0 x2 x3 x4 x5 x6 x7 x8 x9 x10 x11 (ix4 b n d s) = ((weight (c b d n) s : ℝ) : EReal) := by
  simp only [val_main_v114, val_main_call8_v1, val_main_call8_v0, val_main_v113, val_main_v112, val_main_cst_19,
    val_main_v111, val_main_v110, val_main_v109, val_main_v108, val_main_c_18, val_main_v103]
  pointwise
  rw [frac_at x0 x2 x3 x4 x5 x6 x7 x8 x9 x10 x11 c hC]
  unfold weight
  fin_cases s <;> simp [Scalar.select, IntOp.cmpi]

include hc

theorem corner_at (b : Fin 16) (n : Fin 1920) (d : Fin 3) (s : Fin 2) :
    val_main_v107 x0 x2 x3 x4 x5 x6 x7 x8 x9 x10 x11 (ix4 b n d s) = BitVec.ofInt 32 (corner (c b d n) s) := by
  simp only [val_main_v107, val_main_v106, val_main_v105, val_main_v104, val_main_v103]
  pointwise
  rw [floor_at x0 x2 x3 x4 x5 x6 x7 x8 x9 x10 x11 c hC]
  obtain ⟨a, e⟩ := floor_bounds (c b d n) (hc b d n).1 (hc b d n).2
  have h : FloatOps.fptosi (F := Ideal) (φ := .f32) 32 (((⌊vox (c b d n)⌋ : ℤ) : ℝ) : EReal) = BitVec.ofInt 32 ⌊vox (c b d n)⌋ := by
    show BitVec.ofInt 32 (max _ (min _ (if (0 : ℝ) ≤ ((⌊vox (c b d n)⌋ : ℤ) : ℝ) then ⌊((⌊vox (c b d n)⌋ : ℤ) : ℝ)⌋
      else ⌈((⌊vox (c b d n)⌋ : ℤ) : ℝ)⌉))) = _
    rw [Int.floor_intCast, Int.ceil_intCast, ite_self]
    congr 1
    norm_num
    omega
  rw [h]
  unfold corner
  rw [BitVec.ofInt_add, BitVec.ofInt_natCast]
  rfl

theorem valid_at (b : Fin 16) (n : Fin 1920) (d : Fin 3) (s : Fin 2) :
    val_main_v119 x0 x2 x3 x4 x5 x6 x7 x8 x9 x10 x11 (ix4 b n d s)
      = BitVec.ofBool (decide (0 ≤ corner (c b d n) s) && decide (corner (c b d n) s ≤ 127)) := by
  simp only [val_main_v119, val_main_v118, val_main_v117, val_main_c_21, val_main_v116, val_main_v115, val_main_c_20]
  pointwise
  rw [corner_at x0 x2 x3 x4 x5 x6 x7 x8 x9 x10 x11 c hC hc]
  obtain ⟨a, e⟩ := corner_bounds (c b d n) (hc b d n) s
  generalize corner (c b d n) s = k at a e ⊢
  simp only [IntOp.cmpi, IntOp.andi, BitVec.sle, BitVec.slt, toInt_ofInt k (by omega),
    show (0#32).toInt = 0 from rfl, show (128#32).toInt = 128 from rfl]
  by_cases h1 : 0 ≤ k <;> by_cases h2 : k ≤ 127 <;> simp [h1, h2, show k < 128 ↔ k ≤ 127 by omega]

theorem near_at (b : Fin 16) (n : Fin 1920) (d : Fin 3) (s : Fin 2) :
    val_main_v120 x0 x2 x3 x4 x5 x6 x7 x8 x9 x10 x11 (ix4 b n d s) = BitVec.ofInt 32 (near (corner (c b d n) s)) := by
  simp only [val_main_v120, val_main_call9_v4, val_main_call9_v3, val_main_call9_v2, val_main_call9_v1, val_main_call9_v0,
    val_main_c_23, val_main_c_22]
  pointwise
  rw [corner_at x0 x2 x3 x4 x5 x6 x7 x8 x9 x10 x11 c hC hc]
  obtain ⟨a, e⟩ := corner_bounds (c b d n) (hc b d n) s
  generalize corner (c b d n) s = k at a e ⊢
  show IntOp.minsi (127#32) (IntOp.maxsi (0#32) (BitVec.ofInt 32 k)) = _
  have h1 : IntOp.maxsi (0#32) (BitVec.ofInt 32 k) = BitVec.ofInt 32 (max 0 k) := by
    simp only [IntOp.maxsi, BitVec.sle, BitVec.slt, toInt_ofInt k (by omega), show (0#32).toInt = 0 from rfl]
    by_cases h : 0 < k
    · simp [h, max_eq_right h.le, h.le]
    · have : k = 0 ∨ k = -1 := by omega
      rcases this with rfl | rfl <;> simp <;> rfl
  rw [h1]
  unfold near
  generalize hj : max 0 k = j
  have hj' : 0 ≤ j ∧ j ≤ 128 := by omega
  simp only [IntOp.minsi, BitVec.sle, BitVec.slt, toInt_ofInt j (by omega), show (127#32).toInt = 127 from rfl]
  by_cases h : j ≤ 127
  · have : j < 127 ∨ j = 127 := by omega
    rcases this with h' | rfl
    · simp [min_eq_right h, h, not_lt.mpr h]
      try omega
    · simp <;> rfl
  · have : j = 128 := by omega
    subst this
    simp <;> rfl

/-- A corner's place in the flat grid. -/
theorem flat_at (b : Fin 16) (n : Fin 1920) (sz sy sx : Fin 2) :
    val_main_v160 x0 x2 x3 x4 x5 x6 x7 x8 x9 x10 x11 (ix5 b n sz sy sx)
      = BitVec.ofInt 32 ((((b.val : ℤ) * 128 + near (corner (c b 2 n) sz)) * 128 + near (corner (c b 1 n) sy)) * 128
          + near (corner (c b 0 n) sx)) := by
  simp only [val_main_v160, val_main_v159, val_main_v158, val_main_v157, val_main_c_26, val_main_v156, val_main_v155,
    val_main_v154, val_main_v153, val_main_c_25, val_main_v152, val_main_v151, val_main_v150, val_main_v149,
    val_main_c_24, val_main_v148, val_main_v129, val_main_v128, val_main_v127, val_main_v126, val_main_v125,
    val_main_v124, val_main_v123, val_main_v122, val_main_v121]
  pointwise
  rw [near_at x0 x2 x3 x4 x5 x6 x7 x8 x9 x10 x11 c hC hc, near_at x0 x2 x3 x4 x5 x6 x7 x8 x9 x10 x11 c hC hc, near_at x0 x2 x3 x4 x5 x6 x7 x8 x9 x10 x11 c hC hc]
  simp only [BitVec.ofInt_add, BitVec.ofInt_mul, BitVec.ofInt_natCast, IntOp.addi, IntOp.muli]
  rfl

/-- Whether a corner lies in the grid. -/
theorem inside_at (b : Fin 16) (n : Fin 1920) (sz sy sx : Fin 2) :
    val_main_v172 x0 x2 x3 x4 x5 x6 x7 x8 x9 x10 x11 (ix5 b n sz sy sx) = 1#1
      ↔ (0 ≤ corner (c b 0 n) sx ∧ corner (c b 0 n) sx ≤ 127) ∧ (0 ≤ corner (c b 1 n) sy ∧ corner (c b 1 n) sy ≤ 127)
        ∧ (0 ≤ corner (c b 2 n) sz ∧ corner (c b 2 n) sz ≤ 127) := by
  simp only [val_main_v172, val_main_v171, val_main_v170, val_main_v169, val_main_v168, val_main_v167, val_main_v147,
    val_main_v146, val_main_v145, val_main_v144, val_main_v143, val_main_v142, val_main_v141, val_main_v140,
    val_main_v139]
  pointwise
  rw [valid_at x0 x2 x3 x4 x5 x6 x7 x8 x9 x10 x11 c hC hc, valid_at x0 x2 x3 x4 x5 x6 x7 x8 x9 x10 x11 c hC hc, valid_at x0 x2 x3 x4 x5 x6 x7 x8 x9 x10 x11 c hC hc]
  simp only [IntOp.andi, ofBool_and, ofBool_eq_one, Bool.and_eq_true, decide_eq_true_eq]
  tauto

omit hc in
/-- A corner's weight. -/
theorem product_at (b : Fin 16) (n : Fin 1920) (sz sy sx : Fin 2) :
    val_main_v166 x0 x2 x3 x4 x5 x6 x7 x8 x9 x10 x11 (ix5 b n sz sy sx)
      = ((weight (c b 0 n) sx * weight (c b 1 n) sy * weight (c b 2 n) sz : ℝ) : EReal) := by
  simp only [val_main_v166, val_main_v165, val_main_v164, val_main_v163, val_main_v162, val_main_v161, val_main_v138,
    val_main_v137, val_main_v136, val_main_v135, val_main_v134, val_main_v133, val_main_v132, val_main_v131,
    val_main_v130]
  pointwise
  rw [weight_at x0 x2 x3 x4 x5 x6 x7 x8 x9 x10 x11 c hC, weight_at x0 x2 x3 x4 x5 x6 x7 x8 x9 x10 x11 c hC, weight_at x0 x2 x3 x4 x5 x6 x7 x8 x9 x10 x11 c hC, ← EReal.coe_mul, ← EReal.coe_mul]

end Axis

end Cert.Proof.RefCorner

end
-- ==== Proof.RefSplat.lean ====
/-
  The reference's two splats: a grid the corners scatter to holds, at a voxel, the sum over the sample's points of the
  point's value times its three hats.
-/
module

public import proofs.«01_k».proof.Proof.RefCorner
public import Idealize.ShloMosaic.Lib.Routing.OpsPair

@[expose] public section

set_option maxRecDepth 16384

noncomputable section

namespace Cert.Proof.RefSplat

open Cert.ReferenceIdeal Cert.ReferenceIdeal.Gen Cert.ReferenceIdeal.Read
open Idealize.ShloMosaic Idealize.SL.Sem
open Cert.Proof.Hat Cert.Proof.RefCorner
open Cert.Proof.KProf (toInt_ofInt)
open Idealize.ShloMosaic.Routing (resultIdx?_ix1 wrap_of_lt)

/-- The sum of real numbers, as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## What a scatter of words and updates makes -/

/-- The words with the negative ones counted from the end. -/
def wrapped (p : IVec S16x1920x2x2x2 32) : IVec S245760 32 :=
  select (cmpi .slt (shapeCast S245760 p shapeCasts_S16x1920x2x2x2_S245760)
      (broadcastInDim S245760 ![] bcast_S_S245760 (constantI S_ 32 0#32)))
    (addi (shapeCast S245760 p shapeCasts_S16x1920x2x2x2_S245760)
      (broadcastInDim S245760 ![] bcast_S_S245760 (constantI S_ 32 33554432#32)))
    (shapeCast S245760 p shapeCasts_S16x1920x2x2x2_S245760)

/-- The grid the updates `u` scatter to at the places `p`. -/
def grid (p : IVec S16x1920x2x2x2 32) (u : FVec Ideal S16x1920x2x2x2 .f32) : FVec Ideal S16x1x128x128x128 .f32 :=
  shapeCast S16x1x128x128x128
    (Host.scatterAdd scatter_S33554432_S245760x1_S245760_n_0_0_1
      (broadcastInDim S33554432 ![] bcast_S_S33554432 (constant S_ .f32 0x00000000#32))
      (broadcastInDim S245760x1 ![0] bcast_S245760_S245760x1_0 (wrapped p))
      (shapeCast S245760 u shapeCasts_S16x1920x2x2x2_S245760))
    shapeCasts_S33554432_S16x1x128x128x128

/-- A voxel's place in the flat grid. -/
def place (b : Fin 16) (z y x : ℤ) : ℤ := (((b.val : ℤ) * 128 + z) * 128 + y) * 128 + x

/-- Update `i` lands at `x` exactly when its word is `x`. -/
theorem lands (idx : IVec S245760x1 32) (i : Fin 245760) (x : Fin 33554432) :
    scatter_S33554432_S245760x1_S245760_n_0_0_1.resultIdx? (ix1 i) idx = some (ix1 x)
      ↔ (idx (ix2 i (0 : Fin 1))).toInt = (x.val : ℤ) := by
  refine (resultIdx?_ix1 (N := 33554432) scatter_S33554432_S245760x1_S245760_n_0_0_1 (ix1 i) idx x).trans ?_
  have hw : scatter_S33554432_S245760x1_S245760_n_0_0_1.window (ix1 i) 0 = 0 := by
    unfold ScatterDims.window
    exact dif_neg (by show ¬ ((0 : Fin 1) ∈ Shape.kept S33554432 [(0 : Fin 1)]); decide)
  have hs : scatter_S33554432_S245760x1_S245760_n_0_0_1.start (ix1 i) idx 0 = (idx (ix2 i (0 : Fin 1))).toInt := by
    unfold ScatterDims.start
    refine (dif_pos (show (0 : Fin 1) ∈ [(0 : Fin 1)] from List.mem_singleton.2 rfl)).trans ?_
    congr 2
    funext a
    match a with
    | ⟨0, _⟩ => rfl
    | ⟨1, _⟩ => rfl
  rw [hw, hs]
  simp

/-- A voxel of the grid: the sum of the updates whose word is its place. -/
theorem grid_apply (p : IVec S16x1920x2x2x2 32) (u : FVec Ideal S16x1920x2x2x2 .f32) (q : S16x1920x2x2x2.Idx → ℤ)
    (hq : ∀ j, 0 ≤ q j ∧ q j < 2 ^ 31) (hp : ∀ j, p j = BitVec.ofInt 32 (q j)) (b : Fin 16) (z y x : Fin 128) :
    grid p u (ix5 b 0 z y x) = ∑ j : S16x1920x2x2x2.Idx, if q j = place b z.val y.val x.val then u j else 0 := by
  have hlt : ((((b.val * 1 + 0) * 128 + z.val) * 128 + y.val) * 128 + x.val) < 33554432 := by omega
  have e0 : Shape.reshapeEquiv shapeCasts_S33554432_S16x1x128x128x128 (ix5 b (0 : Fin 1) z y x)
      = ix1 (⟨(((b.val * 1 + 0) * 128 + z.val) * 128 + y.val) * 128 + x.val, hlt⟩ : Fin 33554432) := by
    apply Shape.reshapeEquiv_eq_of_rowMajor
    rw [Shape.rowMajor_val_one, Shape.rowMajor_val_five]
    rfl
  unfold grid
  show Host.scatterAdd _ _ _ _ (Shape.reshapeEquiv shapeCasts_S33554432_S16x1x128x128x128 (ix5 b (0 : Fin 1) z y x)) = _
  rw [e0]
  unfold Host.scatterAdd
  rw [Ideal.hostScatterAdd_def]
  show (_ : EReal) + ∑ j ∈ Finset.univ.filter _, _ = _
  rw [Finset.sum_filter]
  have hz : broadcastInDim S33554432 ![] bcast_S_S33554432 (constant (F := Ideal) S_ .f32 0x00000000#32)
      (ix1 (⟨(((b.val * 1 + 0) * 128 + z.val) * 128 + y.val) * 128 + x.val, hlt⟩ : Fin 33554432)) = (0 : EReal) := by
    pointwise
  rw [hz, zero_add]
  rw [← Equiv.sum_comp (Shape.reshapeEquiv shapeCasts_S16x1920x2x2x2_S245760)]
  refine Finset.sum_congr rfl fun j _ => ?_
  obtain ⟨k, rfl⟩ : ∃ k : Fin 245760, j = ix1 k := ⟨j 0, eq_ix1 j⟩
  have hc : scatter_S33554432_S245760x1_S245760_n_0_0_1.resultIdx? (ix1 k)
        (broadcastInDim S245760x1 ![0] bcast_S245760_S245760x1_0 (wrapped p))
        = some (ix1 (⟨(((b.val * 1 + 0) * 128 + z.val) * 128 + y.val) * 128 + x.val, hlt⟩ : Fin 33554432))
      ↔ q (Shape.reshapeEquiv shapeCasts_S16x1920x2x2x2_S245760 (ix1 k)) = place b z.val y.val x.val := by
    have hword : broadcastInDim S245760x1 ![0] bcast_S245760_S245760x1_0 (wrapped p) (ix2 k (0 : Fin 1))
        = BitVec.ofInt 32 (q (Shape.reshapeEquiv shapeCasts_S16x1920x2x2x2_S245760 (ix1 k))) := by
      have h1 : broadcastInDim S245760x1 ![0] bcast_S245760_S245760x1_0 (wrapped p) (ix2 k (0 : Fin 1))
          = wrapped p (ix1 k) := by pointwise
      rw [h1]
      show Scalar.select (IntOp.cmpi .slt (p (Shape.reshapeEquiv shapeCasts_S16x1920x2x2x2_S245760 (ix1 k))) 0#32) _
        (p (Shape.reshapeEquiv shapeCasts_S16x1920x2x2x2_S245760 (ix1 k))) = _
      obtain ⟨a, e⟩ := hq (Shape.reshapeEquiv shapeCasts_S16x1920x2x2x2_S245760 (ix1 k))
      rw [hp]
      generalize q (Shape.reshapeEquiv shapeCasts_S16x1920x2x2x2_S245760 (ix1 k)) = w at a e ⊢
      lift w to ℕ using a
      rw [BitVec.ofInt_natCast]
      refine wrap_of_lt _ _ ?_
      rw [BitVec.toNat_ofNat]
      omega
    rw [lands, hword]
    obtain ⟨a, e⟩ := hq (Shape.reshapeEquiv shapeCasts_S16x1920x2x2x2_S245760 (ix1 k))
    have ht : (BitVec.ofInt 32 (q (Shape.reshapeEquiv shapeCasts_S16x1920x2x2x2_S245760 (ix1 k)))).toInt
        = q (Shape.reshapeEquiv shapeCasts_S16x1920x2x2x2_S245760 (ix1 k)) := by
      rw [BitVec.toInt_ofInt]
      apply Int.bmod_eq_of_le <;> omega
    rw [ht]
    unfold place
    push_cast
    constructor <;> intro h <;> omega
  by_cases h : q (Shape.reshapeEquiv shapeCasts_S16x1920x2x2x2_S245760 (ix1 k)) = place b z.val y.val x.val
  · rw [if_pos h, if_pos (hc.2 h)]; rfl
  · rw [if_neg h, if_neg (fun h' => h (hc.1 h'))]

/-! ## The corners' hats -/

/-- What corner `s` of a point at `c` gives to voxel `i`. -/
def share (c : ℝ) (i : ℤ) (s : Fin 2) : ℝ := if corner c s = i then weight c s else 0

theorem share_sum (c : ℝ) (i : ℤ) (h0 : 0 ≤ i) (h1 : i ≤ 127) : share c i 0 + share c i 1 = hat c i := by
  have e : ∀ k : ℤ, ((k = i) ↔ i = k) := fun k => eq_comm
  simp only [share, corner, weight, hat, h0, h1, and_self, if_true, Fin.val_zero, Fin.val_one, Nat.cast_zero, Nat.cast_one,
    add_zero, zero_ne_one, if_false, e]
  by_cases h : i = ⌊vox c⌋
  · rw [if_pos h, if_pos h, if_neg (by omega), add_zero]
  · rw [if_neg h, if_neg h, zero_add]

/-- A splat of updates that are the corners' weights times a value of the point. -/
theorem splat (p : IVec S16x1920x2x2x2 32) (u : FVec Ideal S16x1920x2x2x2 .f32) (c : Fin 16 → Fin 3 → Fin 1920 → ℝ)
    (v : Fin 1920 → ℝ) (hc : ∀ b d n, -1 ≤ c b d n ∧ c b d n ≤ 1)
    (hp : ∀ b n sz sy sx, p (ix5 b n sz sy sx)
      = BitVec.ofInt 32 (place b (near (corner (c b 2 n) sz)) (near (corner (c b 1 n) sy)) (near (corner (c b 0 n) sx))))
    (hin : ∀ b n sz sy sx, (0 ≤ corner (c b 0 n) sx ∧ corner (c b 0 n) sx ≤ 127)
        ∧ (0 ≤ corner (c b 1 n) sy ∧ corner (c b 1 n) sy ≤ 127) ∧ (0 ≤ corner (c b 2 n) sz ∧ corner (c b 2 n) sz ≤ 127)
      → u (ix5 b n sz sy sx) = ((weight (c b 0 n) sx * weight (c b 1 n) sy * weight (c b 2 n) sz * v n : ℝ) : EReal))
    (hout : ∀ b n sz sy sx, ¬ ((0 ≤ corner (c b 0 n) sx ∧ corner (c b 0 n) sx ≤ 127)
        ∧ (0 ≤ corner (c b 1 n) sy ∧ corner (c b 1 n) sy ≤ 127) ∧ (0 ≤ corner (c b 2 n) sz ∧ corner (c b 2 n) sz ≤ 127))
      → u (ix5 b n sz sy sx) = 0) (b : Fin 16) (z y x : Fin 128) :
    grid p u (ix5 b 0 z y x)
      = ((∑ n, v n * hat (c b 2 n) z.val * hat (c b 1 n) y.val * hat (c b 0 n) x.val : ℝ) : EReal) := by
  have hnear : ∀ k, 0 ≤ near k ∧ near k ≤ 127 := fun k => by unfold near; omega
  rw [grid_apply p u (fun j => place (j 0) (near (corner (c (j 0) 2 (j 1)) (j 2))) (near (corner (c (j 0) 1 (j 1)) (j 3)))
      (near (corner (c (j 0) 0 (j 1)) (j 4))))
    (fun j => by
      have h0 := (j 0).isLt
      have h2 := hnear (corner (c (j 0) 2 (j 1)) (j 2))
      have h3 := hnear (corner (c (j 0) 1 (j 1)) (j 3))
      have h4 := hnear (corner (c (j 0) 0 (j 1)) (j 4))
      unfold place
      change (j 0).val < 16 at h0
      omega)
    (fun j => by
      obtain ⟨b', n, sz, sy, sx, rfl⟩ : ∃ (b' : Fin 16) (n : Fin 1920) (sz sy sx : Fin 2), j = ix5 b' n sz sy sx :=
        ⟨_, _, _, _, _, eq_ix5 j⟩
      exact hp b' n sz sy sx)]
  have term : ∀ (b' : Fin 16) (n : Fin 1920) (sz sy sx : Fin 2),
      (if place b' (near (corner (c b' 2 n) sz)) (near (corner (c b' 1 n) sy)) (near (corner (c b' 0 n) sx))
          = place b z.val y.val x.val then u (ix5 b' n sz sy sx) else 0)
        = (((if b = b' then v n * share (c b' 2 n) z.val sz * share (c b' 1 n) y.val sy * share (c b' 0 n) x.val sx else 0 : ℝ)) : EReal) := by
    intro b' n sz sy sx
    have n2 := hnear (corner (c b' 2 n) sz)
    have n1 := hnear (corner (c b' 1 n) sy)
    have n0 := hnear (corner (c b' 0 n) sx)
    have hz := z.isLt
    have hy := y.isLt
    have hx := x.isLt
    have hcond : place b' (near (corner (c b' 2 n) sz)) (near (corner (c b' 1 n) sy)) (near (corner (c b' 0 n) sx))
          = place b z.val y.val x.val ↔ b = b' ∧ near (corner (c b' 2 n) sz) = z.val
            ∧ near (corner (c b' 1 n) sy) = y.val ∧ near (corner (c b' 0 n) sx) = x.val := by
      unfold place
      constructor
      · intro h
        refine ⟨Fin.ext ?_, ?_, ?_, ?_⟩ <;> omega
      · rintro ⟨rfl, h2, h1, h0⟩
        rw [h2, h1, h0]
    by_cases hin' : (0 ≤ corner (c b' 0 n) sx ∧ corner (c b' 0 n) sx ≤ 127)
        ∧ (0 ≤ corner (c b' 1 n) sy ∧ corner (c b' 1 n) sy ≤ 127) ∧ (0 ≤ corner (c b' 2 n) sz ∧ corner (c b' 2 n) sz ≤ 127)
    · rw [hin _ _ _ _ _ hin']
      have e : ∀ k, 0 ≤ k ∧ k ≤ 127 → near k = k := fun k hk => by unfold near; omega
      rw [e _ hin'.1, e _ hin'.2.1, e _ hin'.2.2] at hcond
      rw [e _ hin'.1, e _ hin'.2.1, e _ hin'.2.2]
      unfold share
      rw [if_congr hcond rfl rfl]
      by_cases hb : b = b' <;> by_cases h2 : corner (c b' 2 n) sz = z.val <;> by_cases h1 : corner (c b' 1 n) sy = y.val <;>
        by_cases h0 : corner (c b' 0 n) sx = x.val <;> simp only [hb, h2, h1, h0, and_self, and_true, true_and, and_false, false_and, if_true, if_false,
          mul_zero, zero_mul, EReal.coe_zero]
      congr 1
      ring
    · rw [hout _ _ _ _ _ hin', ite_self]
      have : share (c b' 2 n) z.val sz * share (c b' 1 n) y.val sy * share (c b' 0 n) x.val sx = 0 := by
        by_contra hne
        apply hin'
        unfold share at hne
        have g2 : corner (c b' 2 n) sz = z.val := by by_contra g; simp [g] at hne
        have g1 : corner (c b' 1 n) sy = y.val := by by_contra g; simp [g] at hne
        have g0 : corner (c b' 0 n) sx = x.val := by by_contra g; simp [g] at hne
        omega
      rw [mul_assoc, mul_assoc, ← mul_assoc (share (c b' 2 n) z.val sz), this, mul_zero, ite_self, EReal.coe_zero]
  rw [sum_idx5]
  calc _ = ∑ b' : Fin 16, ∑ n : Fin 1920, ∑ sz : Fin 2, ∑ sy : Fin 2, ∑ sx : Fin 2,
        (((if b = b' then v n * share (c b' 2 n) z.val sz * share (c b' 1 n) y.val sy * share (c b' 0 n) x.val sx else 0 : ℝ)) : EReal) := by
        refine Finset.sum_congr rfl fun b' _ => Finset.sum_congr rfl fun n _ => Finset.sum_congr rfl fun sz _ =>
          Finset.sum_congr rfl fun sy _ => Finset.sum_congr rfl fun sx _ => term b' n sz sy sx
    _ = _ := by
        simp only [coe_sum]
        congr 1
        rw [Finset.sum_eq_single b]
        · refine Finset.sum_congr rfl fun n _ => ?_
          simp only [if_true, Fin.sum_univ_two]
          rw [← share_sum (c b 2 n) z.val (by omega) (by omega), ← share_sum (c b 1 n) y.val (by omega) (by omega),
            ← share_sum (c b 0 n) x.val (by omega) (by omega)]
          ring
        · intro b' _ hb
          simp only [if_neg (Ne.symm hb), Finset.sum_const_zero]
        · intro h
          exact absurd (Finset.mem_univ b) h

/-! ## The reference's splats -/

section Stages

variable (x0 : (⟨S16x2048, .f32⟩ : BufTy).Contents (Elt Ideal)) (x1 : (⟨S1x1x16x120, .f32⟩ : BufTy).Contents (Elt Ideal))
  (x2 : (⟨S240x256, .f32⟩ : BufTy).Contents (Elt Ideal))
  (x3 : (⟨S240, .f32⟩ : BufTy).Contents (Elt Ideal)) (x4 : (⟨S64x2, .f32⟩ : BufTy).Contents (Elt Ideal))
  (x5 : (⟨S128, .f32⟩ : BufTy).Contents (Elt Ideal)) (x6 : (⟨S32x2, .f32⟩ : BufTy).Contents (Elt Ideal))
  (x7 : (⟨S64, .f32⟩ : BufTy).Contents (Elt Ideal)) (x8 : (⟨S16x4, .f32⟩ : BufTy).Contents (Elt Ideal))
  (x9 : (⟨S64, .f32⟩ : BufTy).Contents (Elt Ideal)) (x10 : (⟨S3x16, .f32⟩ : BufTy).Contents (Elt Ideal))
  (x11 : (⟨S3, .f32⟩ : BufTy).Contents (Elt Ideal))
  (c : Fin 16 → Fin 3 → Fin 1920 → ℝ)
  (hC : ∀ b d n, val_main_v91 x0 x2 x3 x4 x5 x6 x7 x8 x9 x10 x11 (ix3 b d n) = ((c b d n : ℝ) : EReal))
  (hc : ∀ b d n, -1 ≤ c b d n ∧ c b d n ≤ 1)

include hC hc

/-- The splat of the points' values. -/
theorem values_at (v : Fin 1920 → ℝ) (hv : ∀ n, val_main_v179 x1 (ix2 0 n) = ((v n : ℝ) : EReal)) (b : Fin 16) (z y x : Fin 128) :
    val_main_v195 x0 x1 x2 x3 x4 x5 x6 x7 x8 x9 x10 x11 (ix5 b 0 z y x)
      = ((∑ n, v n * hat (c b 2 n) z.val * hat (c b 1 n) y.val * hat (c b 0 n) x.val : ℝ) : EReal) := by
  have e : val_main_v195 x0 x1 x2 x3 x4 x5 x6 x7 x8 x9 x10 x11 = grid (val_main_v160 x0 x2 x3 x4 x5 x6 x7 x8 x9 x10 x11) (val_main_v184 x0 x1 x2 x3 x4 x5 x6 x7 x8 x9 x10 x11) := rfl
  rw [e]
  refine splat _ _ c v hc (fun b n sz sy sx => flat_at x0 x2 x3 x4 x5 x6 x7 x8 x9 x10 x11 c hC hc b n sz sy sx) ?_ ?_ b z y x
  · intro b n sz sy sx h
    rw [← inside_at x0 x2 x3 x4 x5 x6 x7 x8 x9 x10 x11 c hC hc b n sz sy sx] at h
    unfold val_main_v184
    show Scalar.select _ _ _ = _
    rw [h]
    show val_main_v183 x0 x1 x2 x3 x4 x5 x6 x7 x8 x9 x10 x11 (ix5 b n sz sy sx) = _
    simp only [val_main_v183, val_main_v182, val_main_v181, val_main_v180]
    pointwise
    rw [product_at x0 x2 x3 x4 x5 x6 x7 x8 x9 x10 x11 c hC, hv, ← EReal.coe_mul]
  · intro b n sz sy sx h
    rw [← inside_at x0 x2 x3 x4 x5 x6 x7 x8 x9 x10 x11 c hC hc b n sz sy sx] at h
    unfold val_main_v184
    show Scalar.select _ _ _ = _
    unfold Scalar.select
    refine (if_neg h).trans ?_
    simp only [val_main_call10_v1, val_main_call10_v0, val_main_cst_29]
    pointwise
    simp [constant]

/-- The splat of ones. -/
theorem ones_at (b : Fin 16) (z y x : Fin 128) :
    val_main_v211 x0 x2 x3 x4 x5 x6 x7 x8 x9 x10 x11 (ix5 b 0 z y x)
      = ((∑ n, 1 * hat (c b 2 n) z.val * hat (c b 1 n) y.val * hat (c b 0 n) x.val : ℝ) : EReal) := by
  have e : val_main_v211 x0 x2 x3 x4 x5 x6 x7 x8 x9 x10 x11 = grid (val_main_v160 x0 x2 x3 x4 x5 x6 x7 x8 x9 x10 x11) (val_main_v200 x0 x2 x3 x4 x5 x6 x7 x8 x9 x10 x11) := rfl
  rw [e]
  refine splat _ _ c (fun _ => 1) hc (fun b n sz sy sx => flat_at x0 x2 x3 x4 x5 x6 x7 x8 x9 x10 x11 c hC hc b n sz sy sx) ?_ ?_ b z y x
  · intro b n sz sy sx h
    rw [← inside_at x0 x2 x3 x4 x5 x6 x7 x8 x9 x10 x11 c hC hc b n sz sy sx] at h
    unfold val_main_v200
    show Scalar.select _ _ _ = _
    rw [h]
    show val_main_v199 x0 x2 x3 x4 x5 x6 x7 x8 x9 x10 x11 (ix5 b n sz sy sx) = _
    simp only [val_main_v199, val_main_v198, val_main_v197, val_main_v196, val_main_cst_33]
    pointwise
    rw [product_at x0 x2 x3 x4 x5 x6 x7 x8 x9 x10 x11 c hC]
  · intro b n sz sy sx h
    rw [← inside_at x0 x2 x3 x4 x5 x6 x7 x8 x9 x10 x11 c hC hc b n sz sy sx] at h
    unfold val_main_v200
    show Scalar.select _ _ _ = _
    unfold Scalar.select
    refine (if_neg h).trans ?_
    simp only [val_main_call11_v1, val_main_call11_v0, val_main_cst_34]
    pointwise
    simp [constant]

end Stages

end Cert.Proof.RefSplat

end
-- ==== Proof.RefSmooth.lean ====
/-
  The reference's averages: three zero-padded averages of three on each axis, of a grid that is a sum of products of one
  factor per axis, average each factor three times.
-/
module

public import proofs.«01_k».proof.Proof.RefSplat
public import Idealize.ShloMosaic.Lib.KernelVsHost

@[expose] public section

set_option maxRecDepth 16384

noncomputable section

namespace Cert.Proof.RefSmooth

open Cert.ReferenceIdeal Cert.ReferenceIdeal.Gen Cert.ReferenceIdeal.Read
open Idealize.ShloMosaic Idealize.SL.Sem
open Cert.Proof.Hat Cert.Proof.RefSplat

/-- A grid of the batch. -/
abbrev Grid := FVec Ideal S16x1x128x128x128 .f32

/-- The padding's value. -/
def zero : FVec Ideal S_ .f32 := sitofp .f32 (constantI S_ 32 0#32)

/-- The average of three grids. -/
def third (A B C : Grid) : Grid :=
  Host.divf (addf (addf A B) C)
    (broadcastInDim S16x1x128x128x128 ![] bcast_S_S16x1x128x128x128 (constant S_ .f32 0x40400000#32))

/-- The grid with a layer of zeros on both sides of axis 2. -/
def padz (A : Grid) : FVec Ideal S16x1x130x128x128 .f32 :=
  pad S16x1x130x128x128 ![0, 0, 1, 0, 0] ![0, 0, 1, 0, 0] ![0, 0, 0, 0, 0] A zero pads_S16x1x128x128x128_S16x1x130x128x128_000_000_110_000_000 h_S_

/-- The average of three on axis 2. -/
def poolz (A : Grid) : Grid :=
  third (extractStridedSlice S16x1x128x128x128 ![0, 0, 0, 0, 0] (padz A) slices_S16x1x130x128x128_S16x1x128x128x128_0_0_0_0_0)
    (extractStridedSlice S16x1x128x128x128 ![0, 0, 1, 0, 0] (padz A) slices_S16x1x130x128x128_S16x1x128x128x128_0_0_1_0_0)
    (extractStridedSlice S16x1x128x128x128 ![0, 0, 2, 0, 0] (padz A) slices_S16x1x130x128x128_S16x1x128x128x128_0_0_2_0_0)

/-- The grid with a layer of zeros on both sides of axis 3. -/
def pady (A : Grid) : FVec Ideal S16x1x128x130x128 .f32 :=
  pad S16x1x128x130x128 ![0, 0, 0, 1, 0] ![0, 0, 0, 1, 0] ![0, 0, 0, 0, 0] A zero pads_S16x1x128x128x128_S16x1x128x130x128_000_000_000_110_000 h_S_

/-- The average of three on axis 3. -/
def pooly (A : Grid) : Grid :=
  third (extractStridedSlice S16x1x128x128x128 ![0, 0, 0, 0, 0] (pady A) slices_S16x1x128x130x128_S16x1x128x128x128_0_0_0_0_0)
    (extractStridedSlice S16x1x128x128x128 ![0, 0, 0, 1, 0] (pady A) slices_S16x1x128x130x128_S16x1x128x128x128_0_0_0_1_0)
    (extractStridedSlice S16x1x128x128x128 ![0, 0, 0, 2, 0] (pady A) slices_S16x1x128x130x128_S16x1x128x128x128_0_0_0_2_0)

/-- The grid with a layer of zeros on both sides of axis 4. -/
def padx (A : Grid) : FVec Ideal S16x1x128x128x130 .f32 :=
  pad S16x1x128x128x130 ![0, 0, 0, 0, 1] ![0, 0, 0, 0, 1] ![0, 0, 0, 0, 0] A zero pads_S16x1x128x128x128_S16x1x128x128x130_000_000_000_000_110 h_S_

/-- The average of three on axis 4. -/
def poolx (A : Grid) : Grid :=
  third (extractStridedSlice S16x1x128x128x128 ![0, 0, 0, 0, 0] (padx A) slices_S16x1x128x128x130_S16x1x128x128x128_0_0_0_0_0)
    (extractStridedSlice S16x1x128x128x128 ![0, 0, 0, 0, 1] (padx A) slices_S16x1x128x128x130_S16x1x128x128x128_0_0_0_0_1)
    (extractStridedSlice S16x1x128x128x128 ![0, 0, 0, 0, 2] (padx A) slices_S16x1x128x128x130_S16x1x128x128x128_0_0_0_0_2)

/-- One average of three on each axis. -/
def smooth1 (A : Grid) : Grid := poolx (pooly (poolz A))

/-- A grid whose voxels are the reals `g`. -/
def Holds (A : Grid) (g : Fin 16 → ℤ → ℤ → ℤ → ℝ) : Prop :=
  ∀ (b : Fin 16) (z y x : Fin 128), A (ix5 b 0 z y x) = ((g b z.val y.val x.val : ℝ) : EReal)

theorem zero_at (i : S_.Idx) : zero i = (0 : EReal) := by
  show ((((0#32 : BitVec 32).toInt : ℤ) : ℝ) : EReal) = 0
  simp

theorem third_at (A B C : Grid) (i : S16x1x128x128x128.Idx) (a b c : ℝ) (ha : A i = (a : EReal)) (hb : B i = (b : EReal))
    (hc : C i = (c : EReal)) : third A B C i = (((a + b + c) / 3 : ℝ) : EReal) := by
  have e3 : Ideal.ofBits .f32 0x40400000#32 = ((3 : ℝ) : EReal) := by
    simp [Ideal.ofBits, Ideal.ieee, -EReal.coe_mul]; norm_num
  show Ideal.div ((A i + B i) + C i) (Ideal.ofBits .f32 0x40400000#32) = _
  rw [ha, hb, hc, e3, Ideal.div_coe (by norm_num), ← EReal.coe_add, ← EReal.coe_add, ← EReal.coe_mul]
  congr 1
  ring

/-- A slice of a padded grid: where it reads the grid, and where it reads the padding. -/
theorem slice_pad {t : Shape} (a : Fin 5) (lo hi int : Fin 5 → ℕ) (off : Fin t.rank → ℕ) (A : Grid)
    (hp : S16x1x128x128x128.Pads lo hi int t) (hs : t.Slices off S16x1x128x128x128) (k : ℕ)
    (hlo : ∀ b, lo b = if b = a then 1 else 0) (hint : ∀ b, int b = 0)
    (hoff : ∀ b : Fin 5, off (b.cast hp.1) = if b = a then k else 0) (i : S16x1x128x128x128.Idx)
    (at' : Fin 128 → S16x1x128x128x128.Idx) (hat : ∀ j b, (at' j b).val = if b = a then j.val else (i b).val)
    (h128 : S16x1x128x128x128.size a = 128) (line : ℤ → ℝ) (hA : ∀ j, A (at' j) = ((line j.val : ℝ) : EReal)) :
    extractStridedSlice S16x1x128x128x128 off (pad t lo hi int A zero hp h_S_) hs i
      = ((clip line ((i a).val + k - 1) : ℝ) : EReal) := by
  have read : ∀ b : Fin 5, off (b.cast hp.1) + (i b).val = (if b = a then k else 0) + (i b).val := fun b => by rw [hoff b]
  unfold extractStridedSlice clip
  by_cases hz : 1 ≤ (i a).val + k ∧ (i a).val + k ≤ 128
  · rw [if_pos (by omega)]
    refine (pad_apply_of_inside lo hi int A zero hp h_S_ _ (at' ⟨(i a).val + k - 1, by omega⟩) fun b => ?_).trans ?_
    · refine (read b).trans ?_
      rw [hlo, hint, hat]
      show _ = _ + (if b = a then (i a).val + k - 1 else (i b).val) * (0 + 1)
      by_cases hb : b = a
      · subst hb
        rw [if_pos rfl, if_pos rfl, if_pos rfl]
        omega
      · rw [if_neg hb, if_neg hb, if_neg hb]
        omega
    · rw [hA]
      congr 2
      show (((i a).val + k - 1 : ℕ) : ℤ) = _
      omega
  · rw [if_neg (by omega)]
    refine (pad_apply_of_not_inside lo hi int A zero hp h_S_ _ a fun hin => hz ?_).trans (zero_at _)
    obtain ⟨h1, _, h2⟩ := hin
    have e := read a
    rw [if_pos rfl] at e
    have h1' : lo a ≤ off (a.cast hp.1) + (i a).val := h1
    have h2' : (off (a.cast hp.1) + (i a).val - lo a) / (int a + 1) < 128 := h128 ▸ h2
    rw [hlo, if_pos rfl] at h1' h2'
    rw [hint] at h2'
    omega

/-- An average of three along an axis, at a voxel: that of the line through it. -/
theorem pool_at {t : Shape} (a : Fin 5) (lo hi int : Fin 5 → ℕ) (o0 o1 o2 : Fin t.rank → ℕ) (A : Grid)
    (hp : S16x1x128x128x128.Pads lo hi int t) (s0 : t.Slices o0 S16x1x128x128x128) (s1 : t.Slices o1 S16x1x128x128x128)
    (s2 : t.Slices o2 S16x1x128x128x128) (hlo : ∀ b, lo b = if b = a then 1 else 0) (hint : ∀ b, int b = 0)
    (h0 : ∀ b : Fin 5, o0 (b.cast hp.1) = if b = a then 0 else 0) (h1 : ∀ b : Fin 5, o1 (b.cast hp.1) = if b = a then 1 else 0)
    (h2 : ∀ b : Fin 5, o2 (b.cast hp.1) = if b = a then 2 else 0) (i : S16x1x128x128x128.Idx)
    (at' : Fin 128 → S16x1x128x128x128.Idx) (hat : ∀ j b, (at' j b).val = if b = a then j.val else (i b).val)
    (h128 : S16x1x128x128x128.size a = 128) (line : ℤ → ℝ) (hA : ∀ j, A (at' j) = ((line j.val : ℝ) : EReal)) :
    third (extractStridedSlice S16x1x128x128x128 o0 (pad t lo hi int A zero hp h_S_) s0)
        (extractStridedSlice S16x1x128x128x128 o1 (pad t lo hi int A zero hp h_S_) s1)
        (extractStridedSlice S16x1x128x128x128 o2 (pad t lo hi int A zero hp h_S_) s2) i
      = ((Hat.pool line (i a).val : ℝ) : EReal) := by
  refine (third_at _ _ _ _ _ _ _ (slice_pad a lo hi int o0 A hp s0 0 hlo hint h0 i at' hat h128 line hA)
    (slice_pad a lo hi int o1 A hp s1 1 hlo hint h1 i at' hat h128 line hA)
    (slice_pad a lo hi int o2 A hp s2 2 hlo hint h2 i at' hat h128 line hA)).trans ?_
  unfold Hat.pool
  rw [show ((i a).val : ℤ) + (0 : ℕ) - 1 = (i a).val - 1 by simp, show ((i a).val : ℤ) + (1 : ℕ) - 1 = (i a).val by simp,
    show ((i a).val : ℤ) + (2 : ℕ) - 1 = (i a).val + 1 by push_cast; ring]

theorem poolz_holds (A : Grid) (g : Fin 16 → ℤ → ℤ → ℤ → ℝ) (h : Holds A g) :
    Holds (poolz A) fun b z y x => Hat.pool (fun j => g b j y x) z := fun b z y x => by
  unfold poolz padz
  refine pool_at (t := S16x1x130x128x128) 2 ![0, 0, 1, 0, 0] ![0, 0, 1, 0, 0] ![0, 0, 0, 0, 0] ![0, 0, 0, 0, 0] ![0, 0, 1, 0, 0] ![0, 0, 2, 0, 0] A _ _ _ _ ?_ ?_ ?_ ?_ ?_
    (ix5 b 0 z y x) (fun j => ix5 b 0 j y x) ?_ ?_ _ ?_
  · decide
  · decide
  · decide
  · decide
  · decide
  · intro j b
    fin_cases b <;> rfl
  · rfl
  · exact fun j => h _ _ _ _

theorem pooly_holds (A : Grid) (g : Fin 16 → ℤ → ℤ → ℤ → ℝ) (h : Holds A g) :
    Holds (pooly A) fun b z y x => Hat.pool (fun j => g b z j x) y := fun b z y x => by
  unfold pooly pady
  refine pool_at (t := S16x1x128x130x128) 3 ![0, 0, 0, 1, 0] ![0, 0, 0, 1, 0] ![0, 0, 0, 0, 0] ![0, 0, 0, 0, 0] ![0, 0, 0, 1, 0] ![0, 0, 0, 2, 0] A _ _ _ _ ?_ ?_ ?_ ?_ ?_
    (ix5 b 0 z y x) (fun j => ix5 b 0 z j x) ?_ ?_ _ ?_
  · decide
  · decide
  · decide
  · decide
  · decide
  · intro j b
    fin_cases b <;> rfl
  · rfl
  · exact fun j => h _ _ _ _

theorem poolx_holds (A : Grid) (g : Fin 16 → ℤ → ℤ → ℤ → ℝ) (h : Holds A g) :
    Holds (poolx A) fun b z y x => Hat.pool (fun j => g b z y j) x := fun b z y x => by
  unfold poolx padx
  refine pool_at (t := S16x1x128x128x130) 4 ![0, 0, 0, 0, 1] ![0, 0, 0, 0, 1] ![0, 0, 0, 0, 0] ![0, 0, 0, 0, 0] ![0, 0, 0, 0, 1] ![0, 0, 0, 0, 2] A _ _ _ _ ?_ ?_ ?_ ?_ ?_
    (ix5 b 0 z y x) (fun j => ix5 b 0 z y j) ?_ ?_ _ ?_
  · decide
  · decide
  · decide
  · decide
  · decide
  · intro j b
    fin_cases b <;> rfl
  · rfl
  · exact fun j => h _ _ _ _

/-! ## One factor per axis -/

/-- A sum over the points of a value times one factor per axis. -/
def sep (v : Fin 1920 → ℝ) (hz hy hx : Fin 1920 → ℤ → ℝ) (z y x : ℤ) : ℝ := ∑ n, v n * hz n z * hy n y * hx n x

theorem clip_sum (a b : Fin 1920 → ℝ) (h : Fin 1920 → ℤ → ℝ) (i : ℤ) :
    clip (fun j => ∑ n, a n * h n j * b n) i = ∑ n, a n * clip (h n) i * b n := by
  unfold clip
  split_ifs
  · rfl
  · simp

theorem pool_sum (a b : Fin 1920 → ℝ) (h : Fin 1920 → ℤ → ℝ) (i : ℤ) :
    pool (fun j => ∑ n, a n * h n j * b n) i = ∑ n, a n * pool (h n) i * b n := by
  unfold Hat.pool
  rw [clip_sum, clip_sum, clip_sum, ← Finset.sum_add_distrib, ← Finset.sum_add_distrib, Finset.sum_div]
  refine Finset.sum_congr rfl fun n _ => ?_
  ring

theorem pool_z (v : Fin 1920 → ℝ) (hz hy hx : Fin 1920 → ℤ → ℝ) (z y x : ℤ) :
    pool (fun j => sep v hz hy hx j y x) z = sep v (fun n => pool (hz n)) hy hx z y x := by
  unfold sep
  simpa only [mul_assoc] using pool_sum v (fun n => hy n y * hx n x) hz z

theorem pool_y (v : Fin 1920 → ℝ) (hz hy hx : Fin 1920 → ℤ → ℝ) (z y x : ℤ) :
    pool (fun j => sep v hz hy hx z j x) y = sep v hz (fun n => pool (hy n)) hx z y x := by
  unfold sep
  exact pool_sum (fun n => v n * hz n z) (fun n => hx n x) hy y

theorem pool_x (v : Fin 1920 → ℝ) (hz hy hx : Fin 1920 → ℤ → ℝ) (z y x : ℤ) :
    pool (fun j => sep v hz hy hx z y j) x = sep v hz hy (fun n => pool (hx n)) z y x := by
  unfold sep
  simpa only [mul_one] using pool_sum (fun n => v n * hz n z * hy n y) (fun _ => 1) hx x

theorem smooth1_holds (A : Grid) (v : Fin 1920 → ℝ) (hz hy hx : Fin 16 → Fin 1920 → ℤ → ℝ)
    (h : Holds A fun b => sep v (hz b) (hy b) (hx b)) :
    Holds (smooth1 A) fun b => sep v (fun n => pool (hz b n)) (fun n => pool (hy b n)) (fun n => pool (hx b n)) := by
  have h1 := poolz_holds A _ h
  simp only [pool_z] at h1
  have h2 := pooly_holds _ _ h1
  simp only [pool_y] at h2
  have h3 := poolx_holds _ _ h2
  simp only [pool_x] at h3
  exact h3

/-- Three averages. -/
theorem smooth_holds (A : Grid) (v : Fin 1920 → ℝ) (hz hy hx : Fin 16 → Fin 1920 → ℤ → ℝ)
    (h : Holds A fun b => sep v (hz b) (hy b) (hx b)) :
    Holds (smooth1 (smooth1 (smooth1 A))) fun b => sep v (fun n => pool (pool (pool (hz b n))))
      (fun n => pool (pool (pool (hy b n)))) (fun n => pool (pool (pool (hx b n)))) :=
  smooth1_holds _ _ _ _ _ (smooth1_holds _ _ _ _ _ (smooth1_holds _ _ _ _ _ h))

/-! ## The reference's stages -/

section Stages

variable (x0 : (⟨S16x2048, .f32⟩ : BufTy).Contents (Elt Ideal)) (x1 : (⟨S1x1x16x120, .f32⟩ : BufTy).Contents (Elt Ideal))
  (x2 : (⟨S240x256, .f32⟩ : BufTy).Contents (Elt Ideal))
  (x3 : (⟨S240, .f32⟩ : BufTy).Contents (Elt Ideal)) (x4 : (⟨S64x2, .f32⟩ : BufTy).Contents (Elt Ideal))
  (x5 : (⟨S128, .f32⟩ : BufTy).Contents (Elt Ideal)) (x6 : (⟨S32x2, .f32⟩ : BufTy).Contents (Elt Ideal))
  (x7 : (⟨S64, .f32⟩ : BufTy).Contents (Elt Ideal)) (x8 : (⟨S16x4, .f32⟩ : BufTy).Contents (Elt Ideal))
  (x9 : (⟨S64, .f32⟩ : BufTy).Contents (Elt Ideal)) (x10 : (⟨S3x16, .f32⟩ : BufTy).Contents (Elt Ideal))
  (x11 : (⟨S3, .f32⟩ : BufTy).Contents (Elt Ideal))

theorem values_eq : val_main_v283 x0 x1 x2 x3 x4 x5 x6 x7 x8 x9 x10 x11 = smooth1 (smooth1 (smooth1 (val_main_v195 x0 x1 x2 x3 x4 x5 x6 x7 x8 x9 x10 x11))) := rfl

theorem ones_eq : val_main_v355 x0 x2 x3 x4 x5 x6 x7 x8 x9 x10 x11 = smooth1 (smooth1 (smooth1 (val_main_v211 x0 x2 x3 x4 x5 x6 x7 x8 x9 x10 x11))) := rfl

end Stages

end Cert.Proof.RefSmooth

end
-- ==== Proof.KVal.lean ====
/-
  A voxel of a sample's block as the kernel computes it, in real numbers: the quotient of two sums over the points, of the
  point's value, or one, times the seven-tap filters of its three hats.
-/
module

public import proofs.«01_k».proof.Proof.KVox
public import proofs.«01_k».proof.Proof.KProf
public import proofs.«01_k».proof.Proof.RefSmooth

@[expose] public section

set_option maxRecDepth 16384

noncomputable section

namespace Cert.Proof.KVal

open Cert.KernelIdeal Cert.KernelIdeal.Gen
open Idealize.ShloMosaic Idealize.SL.Sem
open Cert.Proof.Hat Cert.Proof.KProf Cert.Proof.KVox
open Cert.Proof.RefSplat (coe_sum)
open Cert.Proof.RefSmooth (sep)

section

variable (x0 : Vec Ideal S1x3x1920 .f32) (x1 : Vec Ideal S1x1920 .f32) (c : Fin 3 → Fin 1920 → ℝ) (v : Fin 1920 → ℝ)
  (hC : ∀ d n, x0 (ix3 0 d n) = ((c d n : ℝ) : EReal)) (hc : ∀ d n, -1 ≤ c d n ∧ c d n ≤ 1)
  (hv : ∀ n, Ideal.logistic (x1 (ix2 0 n)) = ((v n : ℝ) : EReal))

include hC

/-- The three rows the body loads: row `d` is the points' coordinates on axis `d`. -/
theorem row_at (d : Fin 3) (inb) (n : Fin 1920) :
    View.ld x0 (Rect.unit (s := S1x3x1920) ![0, d.val, 0] S1x1x1920.size inb)
      (ix3 (0 : Fin 1) (0 : Fin 1) n) = ((c d n : ℝ) : EReal) := by
  rw [← hC]
  exact View.ld_unit_apply_of _ _ _ _ _ _ (fun a => by
    match a with
    | ⟨0, _⟩ => rfl
    | ⟨1, _⟩ => rfl
    | ⟨2, _⟩ => exact (Nat.zero_add _).symm)

include hc

theorem x_at (x : Fin 128) (n : Fin 1920) : k5_pay316 x0 x1 (ix2 x n) = ((taps (hat (c 0 n)) x.val : ℝ) : EReal) := by
  rw [x_eq]
  exact prof_real _ n _ (row_at x0 c hC 0 _ n) (hc 0 n).1 (hc 0 n).2 x

theorem y_at (y : Fin 128) (n : Fin 1920) : k5_pay321 x0 x1 (ix2 y n) = ((taps (hat (c 1 n)) y.val : ℝ) : EReal) := by
  rw [y_eq]
  exact prof_real _ n _ (row_at x0 c hC 1 _ n) (hc 1 n).1 (hc 1 n).2 y

theorem z_at (z : Fin 128) (n : Fin 1920) : k5_pay325 x0 x1 (ix2 z n) = ((taps (hat (c 2 n)) z.val : ℝ) : EReal) := by
  rw [z_eq]
  exact prof_real _ n _ (row_at x0 c hC 2 _ n) (hc 2 n).1 (hc 2 n).2 z

omit hC hc in
include hv in
theorem val_at (n : Fin 1920) : k5_pay326 x0 x1 (ix2 (0 : Fin 1) n) = ((v n : ℝ) : EReal) := by
  rw [← hv]
  unfold k5_pay326 k5_pay57
  pointwise

include hv in
/-- The upper half of the stacked y profiles: times the point's value. -/
theorem upper_at (y : Fin 128) (n : Fin 1920) : k5_pay327 x0 x1 (ix2 (⟨y.val, by omega⟩ : Fin 256) n)
    = ((taps (hat (c 1 n)) y.val * v n : ℝ) : EReal) := by
  unfold k5_pay327
  have h1 := y_at x0 x1 c hC hc y n
  have h2 := val_at x0 x1 v hv n
  generalize k5_pay321 x0 x1 = A at h1 ⊢
  generalize k5_pay326 x0 x1 = B at h2 ⊢
  unfold k5_pay58
  pointwise
  rw [h1, h2, ← EReal.coe_mul]

/-- The lower half: as they are. -/
theorem lower_at (y : Fin 128) (n : Fin 1920) : k5_pay327 x0 x1 (ix2 (⟨128 + y.val, by omega⟩ : Fin 256) n)
    = ((taps (hat (c 1 n)) y.val : ℝ) : EReal) := by
  unfold k5_pay327
  have h1 := y_at x0 x1 c hC hc y n
  generalize k5_pay321 x0 x1 = A at h1 ⊢
  generalize k5_pay326 x0 x1 = B
  unfold k5_pay58
  pointwise
  exact h1

include hv in
/-- A voxel of the block. -/
theorem block (z y x : Fin 128) : out5_2 x0 x1 (ix5 (0 : Fin 1) (0 : Fin 1) z y x)
    = Ideal.div ((sep v (fun n => taps (hat (c 2 n))) (fun n => taps (hat (c 1 n))) (fun n => taps (hat (c 0 n))) z.val y.val x.val : ℝ) : EReal)
      (((sep (fun _ => 1) (fun n => taps (hat (c 2 n))) (fun n => taps (hat (c 1 n))) (fun n => taps (hat (c 0 n))) z.val y.val x.val : ℝ) : EReal)
        + Ideal.ofBits .f32 0x3A83126F#32) := by
  rw [out_apply]
  congr 1
  · unfold sep
    rw [← coe_sum]
    refine Finset.sum_congr rfl fun n _ => ?_
    rw [upper_at x0 x1 c v hC hc hv, x_at x0 x1 c hC hc, z_at x0 x1 c hC hc, ← EReal.coe_mul, ← EReal.coe_mul]
    congr 1
    ring
  · congr 1
    unfold sep
    rw [← coe_sum]
    refine Finset.sum_congr rfl fun n _ => ?_
    rw [lower_at x0 x1 c hC hc, x_at x0 x1 c hC hc, z_at x0 x1 c hC hc, ← EReal.coe_mul, ← EReal.coe_mul]
    congr 1
    ring

end

end Cert.Proof.KVal

end
-- ==== Proof.Mask.lean ====
/-
  The mask: where it holds, on each axis and for each of its faces the voxel is at least two voxels inside the face, or the
  sample's points stay far enough inside it.
-/
module

public import proofs.«01_k».proof.On_unclipped
public import proofs.«01_k».proof.Proof.RefCorner

@[expose] public section

set_option maxRecDepth 16384

noncomputable section

namespace Cert.Proof.Mask

open Cert.On_unclipped
open Idealize.ShloMosaic Idealize.SL.Sem
open Cert.ReferenceIdeal.Read
open Cert.Proof.KProf (ofBool_eq_one)
open Cert.Proof.Hat (vox)

/-- The shapes the mask's operations take. -/
instance facts : Facts where
  shapeCasts_S16x2048_S16x256x8 := by decide
  transposes_S240x16x8_S16x240x8_1_0_2 := by decide
  bcast_S240_S1x240x1_1 := by decide
  bcast_S1x240x1_S16x240x8_0_1_2 := by decide
  shapeCasts_S16x240x8_S16x64x30 := by decide
  reducesTo_S16x64x30_S16x64_d2 := by decide
  h_S_ := by decide
  bcast_S16x64_S16x64x1_0_1 := by decide
  bcast_S_S16x64x1 := by decide
  bcast_S16x64x1_S16x64x30_0_1_2 := by decide
  bcast_S_S16x64x30 := by decide
  bcast_S16x64x30_S16x64x1x30_0_1_3 := by decide
  bcast_S64x2_S1x64x2x1_1_2 := by decide
  bcast_S16x64x1x30_S16x64x2x30_0_1_2_3 := by decide
  bcast_S1x64x2x1_S16x64x2x30_0_1_2_3 := by decide
  shapeCasts_S128_S1x64x2x1 := by decide
  shapeCasts_S16x64x2x30_S16x32x120 := by decide
  reducesTo_S16x32x120_S16x32_d2 := by decide
  bcast_S16x32_S16x32x1_0_1 := by decide
  bcast_S_S16x32x1 := by decide
  bcast_S16x32x1_S16x32x120_0_1_2 := by decide
  bcast_S_S16x32x120 := by decide
  bcast_S16x32x120_S16x32x1x120_0_1_3 := by decide
  bcast_S32x2_S1x32x2x1_1_2 := by decide
  bcast_S16x32x1x120_S16x32x2x120_0_1_2_3 := by decide
  bcast_S1x32x2x1_S16x32x2x120_0_1_2_3 := by decide
  shapeCasts_S64_S1x32x2x1 := by decide
  shapeCasts_S16x32x2x120_S16x16x480 := by decide
  reducesTo_S16x16x480_S16x16_d2 := by decide
  bcast_S16x16_S16x16x1_0_1 := by decide
  bcast_S_S16x16x1 := by decide
  bcast_S16x16x1_S16x16x480_0_1_2 := by decide
  bcast_S_S16x16x480 := by decide
  bcast_S16x16x480_S16x16x1x480_0_1_3 := by decide
  bcast_S16x4_S1x16x4x1_1_2 := by decide
  bcast_S16x16x1x480_S16x16x4x480_0_1_2_3 := by decide
  bcast_S1x16x4x1_S16x16x4x480_0_1_2_3 := by decide
  shapeCasts_S64_S1x16x4x1 := by decide
  shapeCasts_S16x16x4x480_S16x16x1920 := by decide
  reducesTo_S16x16x1920_S16x16_d2 := by decide
  bcast_S16x16x1_S16x16x1920_0_1_2 := by decide
  bcast_S_S16x16x1920 := by decide
  transposes_S3x16x1920_S16x3x1920_1_0_2 := by decide
  bcast_S3_S1x3x1_1 := by decide
  bcast_S1x3x1_S16x3x1920_0_1_2 := by decide
  bcast_S_S16x3x1920 := by decide
  reducesTo_S16x3x1920_S16x3_d2 := by decide
  bcast_S_S16x1x128x128x128 := by decide
  slices_S16x3_S16x1_0_0 := by decide
  shapeCasts_S16x1_S16 := by decide
  bcast_S16_S16x1x128x128x128_0 := by decide
  slices_S16x3_S16x1_0_1 := by decide
  slices_S16x3_S16x1_0_2 := by decide
  dot_S240x256_S16x256x8_S240x16x8_1_1_0_02_n_n_wf := by decide
  dot_S3x16_S16x16x1920_S3x16x1920_1_1_0_02_n_n_wf := by decide

/-- One real number at every point. -/
def points (w : BitVec 32) : FVec Ideal S16x3x1920 .f32 :=
  broadcastInDim S16x3x1920 ![] Facts.bcast_S_S16x3x1920 (constant S_ .f32 w)

/-- One real number at every voxel. -/
def voxels (w : BitVec 32) : FVec Ideal S16x1x128x128x128 .f32 :=
  broadcastInDim S16x1x128x128x128 ![] Facts.bcast_S_S16x1x128x128x128 (constant S_ .f32 w)

/-- One word at every voxel. -/
def words (w : BitVec 32) : IVec S16x1x128x128x128 32 :=
  broadcastInDim S16x1x128x128x128 ![] Facts.bcast_S_S16x1x128x128x128 (constantI S_ 32 w)

/-- The points' positions in voxels. -/
def position (C : FVec Ideal S16x3x1920 .f32) : FVec Ideal S16x3x1920 .f32 :=
  mulf (subf (mulf (addf C (points 0x3F800000#32)) (points 0x43000000#32)) (points 0x3F800000#32)) (points 0x3F000000#32)

/-- The first point's position on each axis of each sample. -/
def least (P : FVec Ideal S16x3x1920 .f32) : FVec Ideal S16x3 .f32 :=
  Host.reduce FloatOps.minimumf P (constant S_ .f32 0x7F800000#32) Facts.reducesTo_S16x3x1920_S16x3_d2 Facts.h_S_

/-- The last point's position on each axis of each sample. -/
def greatest (P : FVec Ideal S16x3x1920 .f32) : FVec Ideal S16x3 .f32 :=
  Host.reduce FloatOps.maximumf P (constant S_ .f32 0xFF800000#32) Facts.reducesTo_S16x3x1920_S16x3_d2 Facts.h_S_

/-- A column of a table of samples, at every voxel of the sample. -/
def column (off : Fin 2 → ℕ) (h : S16x3.Slices off S16x1) (T : FVec Ideal S16x3 .f32) : FVec Ideal S16x1x128x128x128 .f32 :=
  broadcastInDim S16x1x128x128x128 ![0] Facts.bcast_S16_S16x1x128x128x128_0
    (shapeCast S16 (extractStridedSlice S16x1 off T h) Facts.shapeCasts_S16x1_S16)

/-- The voxels clear of both faces of axis `a`. -/
def faces (a : Fin 5) (off : Fin 2 → ℕ) (h : S16x3.Slices off S16x1) (lo hi : FVec Ideal S16x3 .f32) :
    IVec S16x1x128x128x128 1 :=
  andi
    (ori (cmpi .sge (iotaInDim S16x1x128x128x128 32 a) (words 2#32))
      (cmpf .oge (addf (column off h lo) (sitofp .f32 (iotaInDim S16x1x128x128x128 32 a))) (voxels 0x40000000#32)))
    (ori (cmpi .sle (iotaInDim S16x1x128x128x128 32 a) (words 125#32))
      (cmpf .ole (addf (column off h hi) (sitofp .f32 (iotaInDim S16x1x128x128x128 32 a))) (voxels 0x437C0000#32)))

/-- The mask from the points' positions. -/
def mask (P : FVec Ideal S16x3x1920 .f32) : IVec S16x1x128x128x128 1 :=
  andi (andi (faces 4 ![0, 0] Facts.slices_S16x3_S16x1_0_0 (least P) (greatest P))
      (faces 3 ![0, 1] Facts.slices_S16x3_S16x1_0_1 (least P) (greatest P)))
    (faces 2 ![0, 2] Facts.slices_S16x3_S16x1_0_2 (least P) (greatest P))

theorem part5 (P : FVec Ideal S16x3x1920 .f32) : fn_part5 P = mask P := rfl

section Stages

variable (x0 : FVec Ideal S16x2048 .f32) (x1 : FVec Ideal S1x1x16x120 .f32) (x2 : FVec Ideal S240x256 .f32)
  (x3 : FVec Ideal S240 .f32) (x4 : FVec Ideal S64x2 .f32) (x5 : FVec Ideal S128 .f32) (x6 : FVec Ideal S32x2 .f32)
  (x7 : FVec Ideal S64 .f32) (x8 : FVec Ideal S16x4 .f32) (x9 : FVec Ideal S64 .f32) (x10 : FVec Ideal S3x16 .f32)
  (x11 : FVec Ideal S3 .f32)

theorem part4 : fn_part4 x10 x11 (val_main_v77 (F := Ideal) x0 x2 x3 x4 x5 x6 x7 x8 x9) (val_main_v79 (F := Ideal) x0 x2 x3 x4 x5 x6 x7 x8 x9) (val_main_cst_13 (F := Ideal))
    = fn_part5 (position (val_main_v91 (F := Ideal) x0 x2 x3 x4 x5 x6 x7 x8 x9 x10 x11)) := rfl

theorem part3 : fn_part3 x8 x9 x10 x11 (val_main_v57 (F := Ideal) x0 x2 x3 x4 x5 x6 x7) (val_main_v59 (F := Ideal) x0 x2 x3 x4 x5 x6 x7)
    = fn_part4 x10 x11 (val_main_v77 (F := Ideal) x0 x2 x3 x4 x5 x6 x7 x8 x9) (val_main_v79 (F := Ideal) x0 x2 x3 x4 x5 x6 x7 x8 x9) (val_main_cst_13 (F := Ideal)) := rfl

theorem part2 : fn_part2 x6 x7 x8 x9 x10 x11 (val_main_v35 (F := Ideal) x0 x2 x3 x4 x5) (val_main_v39 (F := Ideal) x0 x2 x3 x4 x5)
    = fn_part3 x8 x9 x10 x11 (val_main_v57 (F := Ideal) x0 x2 x3 x4 x5 x6 x7) (val_main_v59 (F := Ideal) x0 x2 x3 x4 x5 x6 x7) := rfl

theorem part1 : fn_part1 x4 x5 x6 x7 x8 x9 x10 x11 (val_main_v19 (F := Ideal) x0 x2 x3)
    = fn_part2 x6 x7 x8 x9 x10 x11 (val_main_v35 (F := Ideal) x0 x2 x3 x4 x5) (val_main_v39 (F := Ideal) x0 x2 x3 x4 x5) := rfl

theorem part0 : fn x0 x1 x2 x3 x4 x5 x6 x7 x8 x9 x10 x11 = fn_part1 x4 x5 x6 x7 x8 x9 x10 x11 (val_main_v19 (F := Ideal) x0 x2 x3) := rfl

/-- The mask's coordinates are the reference's. -/
theorem fn_eq : fn x0 x1 x2 x3 x4 x5 x6 x7 x8 x9 x10 x11 = mask (position (val_main_v91 (F := Ideal) x0 x2 x3 x4 x5 x6 x7 x8 x9 x10 x11)) := by
  rw [part0, part1, part2, part3, part4, part5]

end Stages

/-! ## At a voxel -/

/-- A fold of an operation whose result both of its operands are related to. -/
theorem fold_rel {α β : Type*} (R : β → β → Prop) (op : β → β → β) (refl : ∀ x, R x x)
    (trans : ∀ x y z, R x y → R y z → R x z) (left : ∀ x y, R x (op x y)) (right : ∀ x y, R y (op x y)) (f : α → β)
    (L : List α) (r : β) :
    R r (L.foldl (fun r n => op r (f n)) r) ∧ ∀ a ∈ L, R (f a) (L.foldl (fun r n => op r (f n)) r) := by
  induction L generalizing r with
  | nil => exact ⟨refl _, fun a ha => by cases ha⟩
  | cons x L ih =>
    obtain ⟨h1, h2⟩ := ih (op r (f x))
    refine ⟨trans _ _ _ (left _ _) h1, fun a ha => ?_⟩
    rcases List.mem_cons.1 ha with rfl | ha
    · exact trans _ _ _ (right _ _) h1
    · exact h2 a ha

/-- A reduction by such an operation: each element is related to what it is reduced to. -/
theorem reduce_rel (R : EReal → EReal → Prop) (op : EReal → EReal → EReal) (refl : ∀ x, R x x)
    (trans : ∀ x y z, R x y → R y z → R x z) (left : ∀ x y, R x (op x y)) (right : ∀ x y, R y (op x y))
    {s t u : Shape} {axes : List (Fin s.rank)} (x : s.Idx → EReal) (init : u.Idx → EReal)
    (h : s.ReducesTo axes t) (hu : 0 < u.numel) (i : s.Idx) (j : t.Idx) (hij : h.drop i = j) :
    R (x i) (Host.reduce op x init h hu j) := by
  unfold Host.reduce
  have h2 := (fold_rel R op refl trans left right (fun n => x (s.rowMajor.symm n))
    ((List.finRange s.numel).filter fun n => h.drop (s.rowMajor.symm n) = j)
    (init (Shape.Idx.first hu))).2 (s.rowMajor i) (List.mem_filter.2 ⟨List.mem_finRange _, by
      rw [Equiv.symm_apply_apply]
      exact decide_eq_true hij⟩)
  rw [Equiv.symm_apply_apply] at h2
  exact h2

theorem least_le (P : FVec Ideal S16x3x1920 .f32) (b : Fin 16) (d : Fin 3) (n : Fin 1920) :
    least P (ix2 b d) ≤ P (ix3 b d n) :=
  reduce_rel (fun x y => y ≤ x) (FloatOps.minimumf (F := Ideal) (φ := .f32)) (fun _ => le_refl _)
    (fun _ _ _ h h' => h'.trans h) (fun x y => min_le_left x y) (fun x y => min_le_right x y) P
    (constant (F := Ideal) S_ .f32 0x7F800000#32) Facts.reducesTo_S16x3x1920_S16x3_d2 Facts.h_S_ (ix3 b d n) (ix2 b d) (by
      funext a
      match a with
      | ⟨0, _⟩ => rfl
      | ⟨1, _⟩ => rfl)

theorem le_greatest (P : FVec Ideal S16x3x1920 .f32) (b : Fin 16) (d : Fin 3) (n : Fin 1920) :
    P (ix3 b d n) ≤ greatest P (ix2 b d) :=
  reduce_rel (fun x y => x ≤ y) (FloatOps.maximumf (F := Ideal) (φ := .f32)) (fun _ => le_refl _)
    (fun _ _ _ h h' => h.trans h') (fun x y => le_max_left x y) (fun x y => le_max_right x y) P
    (constant (F := Ideal) S_ .f32 0xFF800000#32) Facts.reducesTo_S16x3x1920_S16x3_d2 Facts.h_S_ (ix3 b d n) (ix2 b d) (by
      funext a
      match a with
      | ⟨0, _⟩ => rfl
      | ⟨1, _⟩ => rfl)

theorem position_at (C : FVec Ideal S16x3x1920 .f32) (c : Fin 16 → Fin 3 → Fin 1920 → ℝ)
    (hC : ∀ b d n, C (ix3 b d n) = ((c b d n : ℝ) : EReal)) (b : Fin 16) (d : Fin 3) (n : Fin 1920) :
    position C (ix3 b d n) = ((vox (c b d n) : ℝ) : EReal) := by
  pointwise [position, points]
  rw [hC]
  have e1 : Ideal.ofBits .f32 1124073472#32 = ((128 : ℝ) : EReal) := by
    simp [Ideal.ofBits, Ideal.ieee, -EReal.coe_mul]; norm_num
  have e2 : Ideal.ofBits .f32 1056964608#32 = ((1 / 2 : ℝ) : EReal) := by
    simp [Ideal.ofBits, Ideal.ieee, -EReal.coe_mul]; norm_num
  rw [e1, e2, ← EReal.coe_one, ← EReal.coe_add, ← EReal.coe_mul, ← EReal.coe_sub, ← EReal.coe_mul]
  congr 1
  unfold vox
  ring

theorem ori_one (a b : BitVec 1) (h : IntOp.ori a b = 1#1) : a = 1#1 ∨ b = 1#1 := by
  revert a b; decide

theorem andi_one (a b : BitVec 1) (h : IntOp.andi a b = 1#1) : a = 1#1 ∧ b = 1#1 := by
  revert a b; decide

theorem word_at (k : Fin 128) : (BitVec.ofNat 32 k.val).toInt = (k.val : ℤ) := by
  revert k; decide

theorem sge_at (k : Fin 128) (h : IntOp.cmpi .sge (BitVec.ofNat 32 k.val) 2#32 = 1#1) : 2 ≤ k.val := by
  revert k; decide

theorem sle_at (k : Fin 128) (h : IntOp.cmpi .sle (BitVec.ofNat 32 k.val) 125#32 = 1#1) : k.val ≤ 125 := by
  revert k; decide

theorem column_at (d : ℕ) (hd : d < 3) (h : S16x3.Slices ![0, d] S16x1) (T : FVec Ideal S16x3 .f32) (b : Fin 16) (z y x : Fin 128) :
    column ![0, d] h T (ix5 b 0 z y x) = T (ix2 b ⟨d, hd⟩) := by
  unfold column
  pointwise

/-- Voxel `k` of an axis is clear of both faces: two voxels inside, or no point comes near enough. -/
def Clear (c : Fin 1920 → ℝ) (k : Fin 128) : Prop :=
  (2 ≤ k.val ∨ ∀ n, (2 : ℝ) ≤ vox (c n) + k.val) ∧ (k.val ≤ 125 ∨ ∀ n, vox (c n) + k.val ≤ 252)

theorem faces_at (a : Fin 5) (d : ℕ) (hd : d < 3) (hs : S16x3.Slices ![0, d] S16x1) (C : FVec Ideal S16x3x1920 .f32)
    (c : Fin 16 → Fin 3 → Fin 1920 → ℝ) (hC : ∀ b d n, C (ix3 b d n) = ((c b d n : ℝ) : EReal))
    (b : Fin 16) (z y x : Fin 128) (k : Fin 128) (hk : (ix5 b (0 : Fin 1) z y x a).val = k.val)
    (h : faces a ![0, d] hs (least (position C)) (greatest (position C)) (ix5 b 0 z y x) = 1#1) :
    Clear (c b ⟨d, hd⟩) k := by
  have e2 : Ideal.ofBits .f32 0x40000000#32 = ((2 : ℝ) : EReal) := by
    simp [Ideal.ofBits, Ideal.ieee, -EReal.coe_mul]; norm_num
  have e252 : Ideal.ofBits .f32 0x437C0000#32 = ((252 : ℝ) : EReal) := by
    simp [Ideal.ofBits, Ideal.ieee, -EReal.coe_mul]; norm_num
  have ei : iotaInDim S16x1x128x128x128 32 a (ix5 b (0 : Fin 1) z y x) = BitVec.ofNat 32 k.val := by
    show BitVec.ofNat 32 (ix5 b (0 : Fin 1) z y x a).val = _
    rw [hk]
  have ef : (sitofp .f32 (iotaInDim S16x1x128x128x128 32 a) : FVec Ideal S16x1x128x128x128 .f32) (ix5 b (0 : Fin 1) z y x)
      = ((k.val : ℝ) : EReal) := by
    show ((((iotaInDim S16x1x128x128x128 32 a (ix5 b (0 : Fin 1) z y x)).toInt : ℤ) : ℝ) : EReal) = _
    rw [ei, word_at]
    norm_cast
  have pos := position_at C c hC b ⟨d, hd⟩
  have lo := least_le (position C) b ⟨d, hd⟩
  have hi := le_greatest (position C) b ⟨d, hd⟩
  simp only [pos] at lo hi
  generalize least (position C) = L at h lo
  generalize greatest (position C) = G at h hi
  obtain ⟨h1, h2⟩ := andi_one _ _ (show IntOp.andi _ _ = 1#1 from h)
  constructor
  · rcases ori_one _ _ (show IntOp.ori _ _ = 1#1 from h1) with g | g
    · exact .inl (sge_at k (ei ▸ g))
    · have g' : Ideal.ofBits .f32 0x40000000#32 ≤ column ![0, d] hs L (ix5 b 0 z y x)
          + (sitofp .f32 (iotaInDim S16x1x128x128x128 32 a) : FVec Ideal S16x1x128x128x128 .f32) (ix5 b (0 : Fin 1) z y x) :=
        of_decide_eq_true ((ofBool_eq_one _).1 g)
      rw [e2, column_at d hd, ef] at g'
      refine .inr fun n => EReal.coe_le_coe_iff.1 (g'.trans ?_)
      rw [EReal.coe_add]
      exact add_le_add (lo n) (le_refl _)
  · rcases ori_one _ _ (show IntOp.ori _ _ = 1#1 from h2) with g | g
    · exact .inl (sle_at k (ei ▸ g))
    · have g' : column ![0, d] hs G (ix5 b 0 z y x)
          + (sitofp .f32 (iotaInDim S16x1x128x128x128 32 a) : FVec Ideal S16x1x128x128x128 .f32) (ix5 b (0 : Fin 1) z y x)
          ≤ Ideal.ofBits .f32 0x437C0000#32 :=
        of_decide_eq_true ((ofBool_eq_one _).1 g)
      rw [e252, column_at d hd, ef] at g'
      refine .inr fun n => EReal.coe_le_coe_iff.1 (le_trans ?_ g')
      rw [EReal.coe_add]
      exact add_le_add (hi n) (le_refl _)

/-- Where the mask holds, every axis is clear. -/
theorem mask_at (C : FVec Ideal S16x3x1920 .f32) (c : Fin 16 → Fin 3 → Fin 1920 → ℝ)
    (hC : ∀ b d n, C (ix3 b d n) = ((c b d n : ℝ) : EReal)) (b : Fin 16) (z y x : Fin 128)
    (h : mask (position C) (ix5 b 0 z y x) = 1#1) : Clear (c b 0) x ∧ Clear (c b 1) y ∧ Clear (c b 2) z := by
  obtain ⟨h1, hz⟩ := andi_one _ _ (show IntOp.andi _ _ = 1#1 from h)
  obtain ⟨hx, hy⟩ := andi_one _ _ (show IntOp.andi _ _ = 1#1 from h1)
  exact ⟨faces_at 4 0 (by omega) _ C c hC b z y x x rfl hx, faces_at 3 1 (by omega) _ C c hC b z y x y rfl hy,
    faces_at 2 2 (by omega) _ C c hC b z y x z rfl hz⟩

end Cert.Proof.Mask

end
-- ==== Proof.Equation.lean ====
/-
  The equation: at a voxel of the mask, the block the kernel stores and the reference's quotient are one extended real.
-/
module

public import proofs.«01_k».proof.Proof.KVal
public import proofs.«01_k».proof.Proof.Mask
public import proofs.«01_k».proof.Proof.KArr

@[expose] public section

set_option maxRecDepth 16384

noncomputable section

namespace Cert.Proof.Equation

open Cert.ReferenceIdeal Cert.ReferenceIdeal.Gen Cert.ReferenceIdeal.Read
open Idealize.ShloMosaic Idealize.SL.Sem
open Cert.Proof.Hat Cert.Proof.RefSmooth

/-- A hyperbolic tangent is a real number between minus one and one. -/
theorem tanh_real (x : EReal) : ∃ r : ℝ, Ideal.tanh x = (r : EReal) ∧ -1 ≤ r ∧ r ≤ 1 := by
  induction x with
  | bot => exact ⟨-1, by simp, le_refl _, by norm_num⟩
  | top => exact ⟨1, by simp, by norm_num, le_refl _⟩
  | coe x =>
    refine ⟨Real.tanh x, by simp, ?_, ?_⟩
    · rw [Real.tanh_eq_sinh_div_cosh, le_div_iff₀ (Real.cosh_pos x)]
      have := Real.exp_pos x
      have h := Real.cosh_add_sinh x
      linarith
    · rw [Real.tanh_eq_sinh_div_cosh, div_le_iff₀ (Real.cosh_pos x)]
      have := Real.exp_pos (-x)
      have h := Real.cosh_sub_sinh x
      linarith

/-- A logistic is a real number. -/
theorem logistic_real (x : EReal) : ∃ r : ℝ, Ideal.logistic x = (r : EReal) := by
  induction x with
  | bot => exact ⟨0, by simp⟩
  | top => exact ⟨1, by simp⟩
  | coe x => exact ⟨_, Ideal.logistic_coe _⟩

/-- One axis: three averages of a point's hat are its seven taps where the mask holds. -/
theorem axis (c : Fin 1920 → ℝ) (i : Fin 128) (h : Mask.Clear c i) (n : Fin 1920) :
    pool (pool (pool (hat (c n)))) i.val = taps (hat (c n)) i.val := by
  refine pool_three _ (fun j hj => hat_out _ j hj) _ (by omega) (by omega) (fun j hj => ?_) (fun j hj => ?_)
  · rcases h.1 with h | h
    · exact hat_out _ j (by omega)
    · have e : (j : ℝ) + i.val + 1 ≤ 2 := by exact_mod_cast hj
      exact hat_below _ j (by linarith [h n])
  · rcases h.2 with h | h
    · exact hat_out _ j (by omega)
    · have e : (252 : ℝ) + 1 ≤ j + i.val := by exact_mod_cast hj
      exact hat_above _ j (by linarith [h n])

section

variable (x0 : FVec Ideal S16x2048 .f32) (x1 : FVec Ideal S1x1x16x120 .f32) (x2 : FVec Ideal S240x256 .f32)
  (x3 : FVec Ideal S240 .f32) (x4 : FVec Ideal S64x2 .f32) (x5 : FVec Ideal S128 .f32) (x6 : FVec Ideal S32x2 .f32)
  (x7 : FVec Ideal S64 .f32) (x8 : FVec Ideal S16x4 .f32) (x9 : FVec Ideal S64 .f32) (x10 : FVec Ideal S3x16 .f32)
  (x11 : FVec Ideal S3 .f32)

/-- The points' values are the logistics of theirs. -/
theorem value_at (n : Fin 1920) : val_main_v179 (F := Ideal) x1 (ix2 0 n)
    = Ideal.logistic (shapeCast S1x1920 x1 shapeCasts_S1x1x16x120_S1x1920 (ix2 0 n)) := by
  simp only [val_main_v179, val_main_v178, val_main_v177, val_main_cst_28, val_main_v176, val_main_v175, val_main_cst_27,
    val_main_v174, val_main_v173]
  pointwise
  rfl

/-- The kernel's block and the reference agree at a voxel of the mask. -/
theorem equation (b : Fin 16) (z y x : Fin 128)
    (h : On_unclipped.fn x0 x1 x2 x3 x4 x5 x6 x7 x8 x9 x10 x11 (ix5 b 0 z y x) = 1#1) :
    Cert.KernelIdeal.Gen.out5_2 (KArr.sample (val_main_v91 (F := Ideal) x0 x2 x3 x4 x5 x6 x7 x8 x9 x10 x11) b)
        (shapeCast S1x1920 x1 shapeCasts_S1x1x16x120_S1x1920) (ix5 0 0 z y x)
      = val_main_v358 (F := Ideal) x0 x1 x2 x3 x4 x5 x6 x7 x8 x9 x10 x11 (ix5 b 0 z y x) := by
  have hr : ∀ b d n, ∃ r : ℝ, val_main_v91 (F := Ideal) x0 x2 x3 x4 x5 x6 x7 x8 x9 x10 x11 (ix3 b d n) = ((r : ℝ) : EReal) ∧ -1 ≤ r ∧ r ≤ 1 :=
    fun b d n => tanh_real _
  choose c hC hc using hr
  have hl : ∀ n : Fin 1920, ∃ r : ℝ, Ideal.logistic (shapeCast S1x1920 x1 shapeCasts_S1x1x16x120_S1x1920 (ix2 0 n)) = ((r : ℝ) : EReal) :=
    fun n => logistic_real _
  choose v hv using hl
  rw [Mask.fn_eq] at h
  obtain ⟨mx, my, mz⟩ := Mask.mask_at _ c hC b z y x h
  rw [KVal.block (KArr.sample (val_main_v91 (F := Ideal) x0 x2 x3 x4 x5 x6 x7 x8 x9 x10 x11) b) _ (c b) v (fun d n => hC b d n) (hc b) hv z y x]
  have hn := smooth_holds (val_main_v195 (F := Ideal) x0 x1 x2 x3 x4 x5 x6 x7 x8 x9 x10 x11) v (fun b n => hat (c b 2 n)) (fun b n => hat (c b 1 n)) (fun b n => hat (c b 0 n))
    (fun b z y x => RefSplat.values_at x0 x1 x2 x3 x4 x5 x6 x7 x8 x9 x10 x11 c hC hc v (fun n => (value_at x1 n).trans (hv n)) b z y x)
  have hd := smooth_holds (val_main_v211 (F := Ideal) x0 x2 x3 x4 x5 x6 x7 x8 x9 x10 x11) (fun _ => 1) (fun b n => hat (c b 2 n)) (fun b n => hat (c b 1 n)) (fun b n => hat (c b 0 n))
    (fun b z y x => RefSplat.ones_at x0 x2 x3 x4 x5 x6 x7 x8 x9 x10 x11 c hC hc b z y x)
  rw [← values_eq] at hn
  rw [← ones_eq] at hd
  have e : val_main_v358 (F := Ideal) x0 x1 x2 x3 x4 x5 x6 x7 x8 x9 x10 x11 (ix5 b 0 z y x)
      = Ideal.div (val_main_v283 (F := Ideal) x0 x1 x2 x3 x4 x5 x6 x7 x8 x9 x10 x11 (ix5 b 0 z y x))
        (val_main_v355 (F := Ideal) x0 x2 x3 x4 x5 x6 x7 x8 x9 x10 x11 (ix5 b 0 z y x) + Ideal.ofBits .f32 0x3A83126F#32) := by
    simp only [val_main_v358, val_main_v357, val_main_v356, val_main_cst_74]
    rfl
  rw [e, hn, hd]
  unfold sep
  simp only [axis (c b 0) x mx, axis (c b 1) y my, axis (c b 2) z mz]

end

end Cert.Proof.Equation

end
-- ==== Proof.Algebraic.lean ====
/-
  The value claim: both programs run, and where the mask is set their results are one array.
-/
module

public import proofs.«01_k».proof.Defs
public import proofs.«01_k».proof.Proof.KRun
public import proofs.«01_k».proof.Proof.KCoord
public import proofs.«01_k».proof.Proof.Equation
public import proofs.«01_k».proof.Proof.Gen.ReferenceIdeal.Run
public import proofs.«01_k».proof.Proof.Gen.ReferenceIdeal.Read

@[expose] public section

set_option maxRecDepth 16384

noncomputable section

namespace Cert.Proof.Algebraic

open Idealize.ShloMosaic Idealize.SL.Sem
open Cert.Proof.KCoord

variable (m : (ℓ : Loc Cert.KernelIdeal.nD Cert.KernelIdeal.τ Cert.KernelIdeal.sig) → Buf (Elt Ideal) ℓ)
  (g : Dev Cert.KernelIdeal.nD → PrngReg)

/-- The reference's result of the kernel's arguments. -/
abbrev result (c : Dev Cert.KernelIdeal.nD) : FVec Ideal ⟨5, ![16, 1, 128, 128, 128]⟩ .f32 :=
  Cert.ReferenceIdeal.Read.val_main_v358 (F := Ideal) (a0 m c) (a1 m c) (a2 m c) (a3 m c) (a4 m c) (a5 m c) (a6 m c) (a7 m c) (a8 m c) (a9 m c) (a10 m c) (a11 m c)

/-- The kernel's result array equals it wherever the mask is set. -/
theorem kernel_at (c : Dev Cert.KernelIdeal.nD) (i : (⟨5, ![16, 1, 128, 128, 128]⟩ : Shape).Idx)
    (h : Cert.On_unclipped.fn (F := Ideal) (a0 m c) (a1 m c) (a2 m c) (a3 m c) (a4 m c) (a5 m c) (a6 m c) (a7 m c) (a8 m c) (a9 m c) (a10 m c) (a11 m c) i = 1#1) :
    Cert.KernelIdeal.Gen.W12 m g c (Proc.devRef .tc Cert.KernelIdeal.main_v21) i = result m c i := by
  obtain ⟨b, u, z, y, x, rfl⟩ : ∃ (b : Fin 16) (u : Fin 1) (z y x : Fin 128), i = ix5 b u z y x :=
    ⟨_, _, _, _, _, eq_ix5 i⟩
  obtain rfl : u = 0 := Subsingleton.elim _ _
  refine (congrFun (v21 m g c) (ix5 b 0 z y x)).trans ?_
  exact Equation.equation (a0 m c) (a1 m c) (a2 m c) (a3 m c) (a4 m c) (a5 m c) (a6 m c) (a7 m c) (a8 m c) (a9 m c) (a10 m c) (a11 m c) b z y x h

/-- The value claim. -/
theorem algebraic : Cert.algebraic_KernelIdeal_ReferenceIdeal_on_unclipped (hKernelIdeal := Cert.KernelIdeal.Gen.facts)
    (hReferenceIdeal := Cert.ReferenceIdeal.Gen.facts) (hOn_unclipped := Mask.facts) := by
  intro m g m' g' _ hargs
  refine ⟨result m, ?_, ?_⟩
  · refine (θ_run Cert.KernelIdeal.defs _ _).mono (fun r h c => ?_) (KRun.run (F := Ideal) m g)
    obtain ⟨h1, h2⟩ := h c
    refine ⟨fun i hi => (congrFun h1 i).trans (kernel_at m g c i hi), h2 _ (mem_args 0), h2 _ (mem_args 1), h2 _ (mem_args 2), h2 _ (mem_args 3), h2 _ (mem_args 4), h2 _ (mem_args 5), h2 _ (mem_args 6), h2 _ (mem_args 7), h2 _ (mem_args 8), h2 _ (mem_args 9), h2 _ (mem_args 10), h2 _ (mem_args 11)⟩
  · refine (θ_run Cert.ReferenceIdeal.defs _ _).mono (fun r h c => ?_) (Cert.ReferenceIdeal.Value.run (F := Ideal) m' g')
    obtain ⟨h1, h2⟩ := h c
    refine ⟨fun i _ => congrFun (h1.trans ((Cert.ReferenceIdeal.Read.val_main_v358_eq _).trans ?_)) i, h2⟩
    obtain ⟨e0, e1, e2, e3, e4, e5, e6, e7, e8, e9, e10, e11⟩ := hargs c
    show Cert.ReferenceIdeal.Read.val_main_v358 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [e0, e1, e2, e3, e4, e5, e6, e7, e8, e9, e10, e11]

end Cert.Proof.Algebraic

end
-- ==== Proof.lean ====
/-
  The certificate: the three programs run to the end and leave their arguments and counters as they were; each named
  constant rounds to the float it names; and where the mask is set the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's frame: its run read at its argument buffers; it declares no semaphore. -/
theorem frame_r : Cert.quiescent_ReferenceIdeal := by
  intro m ρ _
  exact (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Everything the certificate claims. -/
theorem claim : Cert.Claim := ⟨Cert.Kernel.Gen.facts, Cert.KernelIdeal.Gen.facts, Cert.ReferenceIdeal.Gen.facts, Mask.facts,
  fun m ρ _ => Cert.Kernel.Gen.frame m ρ,
  fun m ρ _ => Cert.KernelIdeal.Gen.frame m ρ,
  frame_r,
  ⟨IdealRules.named_const.statement Cert.KernelIdeal.κ "w1" .f32 0x3D17B426#32 ((1 / 27 : ℝ) : EReal) rfl,
        IdealRules.named_const.statement Cert.KernelIdeal.κ "w3" .f32 0x3DE38E39#32 ((1 / 9 : ℝ) : EReal) rfl,
        IdealRules.named_const.statement Cert.KernelIdeal.κ "w6" .f32 0x3E638E39#32 ((2 / 9 : ℝ) : EReal) rfl,
        IdealRules.named_const.statement Cert.KernelIdeal.κ "w7" .f32 0x3E84BDA1#32 ((7 / 27 : ℝ) : EReal) rfl⟩,
  Algebraic.algebraic⟩

end Cert.Proof

end
